-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩
abbrev S2048x1x512 : Shape := ⟨3, ![2048, 1, 512]⟩
abbrev S16x512 : Shape := ⟨2, ![16, 512]⟩
abbrev S1x16x512 : Shape := ⟨3, ![1, 16, 512]⟩
abbrev S2048x16x512 : Shape := ⟨3, ![2048, 16, 512]⟩

class Facts : Prop where
  bcast_S_S2048x512 : S_.BroadcastsInDim S2048x512 (![] : Fin 0 → Fin S2048x512.rank)
  bcast_S2048x512_S2048x1x512_0_2 : S2048x512.BroadcastsInDim S2048x1x512 (![0, 2] : Fin 2 → Fin S2048x1x512.rank)
  transposes_S512x16_S16x512_1_0 : S512x16.Transposes [1, 0] S16x512
  bcast_S_S16x512 : S_.BroadcastsInDim S16x512 (![] : Fin 0 → Fin S16x512.rank)
  bcast_S16x512_S1x16x512_1_2 : S16x512.BroadcastsInDim S1x16x512 (![1, 2] : Fin 2 → Fin S1x16x512.rank)
  bcast_S2048x1x512_S2048x16x512_0_1_2 : S2048x1x512.BroadcastsInDim S2048x16x512 (![0, 1, 2] : Fin 3 → Fin S2048x16x512.rank)
  bcast_S1x16x512_S2048x16x512_0_1_2 : S1x16x512.BroadcastsInDim S2048x16x512 (![0, 1, 2] : Fin 3 → Fin S2048x16x512.rank)

variable [Facts]

def fn {F : FTy → Type} [FloatOps F] (main_arg0 : FVec F S2048x512 .f32) (main_arg1 : FVec F S512x16 .f32) (main_arg2 : IVec S2048x1 32) (main_arg3 : FVec F S4x512x1024 .f32) (main_arg4 : FVec F S512x1024 .f32) : IVec S2048x16x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : IVec S2048x1x512 1 := broadcastInDim S2048x1x512 ![0, 2] bcast_S2048x512_S2048x1x512_0_2 main_v2
  let main_v4 : FVec F S512x16 .f32 := Host.absf main_arg1
  let main_v5 : FVec F S16x512 .f32 := (transpose S16x512 [1, 0] · transposes_S512x16_S16x512_1_0) main_v4
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_v8 : IVec S1x16x512 1 := broadcastInDim S1x16x512 ![1, 2] bcast_S16x512_S1x16x512_1_2 main_v7
  let main_v9 : IVec S2048x16x512 1 := broadcastInDim S2048x16x512 ![0, 1, 2] bcast_S2048x1x512_S2048x16x512_0_1_2 main_v3
  let main_v10 : IVec S2048x16x512 1 := broadcastInDim S2048x16x512 ![0, 1, 2] bcast_S1x16x512_S2048x16x512_0_1_2 main_v8
  let main_v11 : IVec S2048x16x512 1 := andi main_v9 main_v10
  main_v11
-- ==== Pre_finite_ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S_ : Shape := ⟨0, ![]⟩
abbrev S2048x1x512 : Shape := ⟨3, ![2048, 1, 512]⟩
abbrev S16x512 : Shape := ⟨2, ![16, 512]⟩
abbrev S1x16x512 : Shape := ⟨3, ![1, 16, 512]⟩
abbrev S2048x16x512 : Shape := ⟨3, ![2048, 16, 512]⟩

class Facts : Prop where
  bcast_S_S2048x512 : S_.BroadcastsInDim S2048x512 (![] : Fin 0 → Fin S2048x512.rank)
  bcast_S2048x512_S2048x1x512_0_2 : S2048x512.BroadcastsInDim S2048x1x512 (![0, 2] : Fin 2 → Fin S2048x1x512.rank)
  transposes_S512x16_S16x512_1_0 : S512x16.Transposes [1, 0] S16x512
  bcast_S_S16x512 : S_.BroadcastsInDim S16x512 (![] : Fin 0 → Fin S16x512.rank)
  bcast_S16x512_S1x16x512_1_2 : S16x512.BroadcastsInDim S1x16x512 (![1, 2] : Fin 2 → Fin S1x16x512.rank)
  bcast_S2048x1x512_S2048x16x512_0_1_2 : S2048x1x512.BroadcastsInDim S2048x16x512 (![0, 1, 2] : Fin 3 → Fin S2048x16x512.rank)
  bcast_S1x16x512_S2048x16x512_0_1_2 : S1x16x512.BroadcastsInDim S2048x16x512 (![0, 1, 2] : Fin 3 → Fin S2048x16x512.rank)

variable [Facts]

def fn {F : FTy → Type} [FloatOps F] (main_arg0 : FVec F S2048x512 .f32) (main_arg1 : FVec F S512x16 .f32) (main_arg2 : IVec S2048x1 32) (main_arg3 : FVec F S16x512x1024 .f32) (main_arg4 : FVec F S512x1024 .f32) : IVec S2048x16x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : IVec S2048x1x512 1 := broadcastInDim S2048x1x512 ![0, 2] bcast_S2048x512_S2048x1x512_0_2 main_v2
  let main_v4 : FVec F S512x16 .f32 := Host.absf main_arg1
  let main_v5 : FVec F S16x512 .f32 := (transpose S16x512 [1, 0] · transposes_S512x16_S16x512_1_0) main_v4
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_v8 : IVec S1x16x512 1 := broadcastInDim S1x16x512 ![1, 2] bcast_S16x512_S1x16x512_1_2 main_v7
  let main_v9 : IVec S2048x16x512 1 := broadcastInDim S2048x16x512 ![0, 1, 2] bcast_S2048x1x512_S2048x16x512_0_1_2 main_v3
  let main_v10 : IVec S2048x16x512 1 := broadcastInDim S2048x16x512 ![0, 1, 2] bcast_S1x16x512_S2048x16x512_0_1_2 main_v8
  let main_v11 : IVec S2048x16x512 1 := andi main_v9 main_v10
  main_v11
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S3x512x1024 : Shape := ⟨3, ![3, 512, 1024]⟩
abbrev S6 : Shape := ⟨1, ![6]⟩
abbrev S_ : Shape := ⟨0, ![]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x16, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S2048x1024, .f32⟩
  | .local _ .vmem, ⟨6, _⟩ => ⟨S4x512x1024, .f32⟩
  | .local _ .vmem, ⟨7, _⟩ => ⟨S3x512x1024, .f32⟩
  | .local _ .vmem, ⟨8, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let v29 : Index := Scalar.indexCast v13
  let c0_14 : Index := 0#32
  ![v29.toNat, 0]
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_46 : BitVec 32 := 1#32
  let v98 : BitVec 32 := Scalar.muli v7 c1_i32_46
  let v99 : BitVec 32 := Scalar.addi c0_i32_47 v98
  v99.toNat
def k0_off3 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.subi v2 c0_i32_52
  let c1_i32_53 : BitVec 32 := 1#32
  let v109 : BitVec 32 := Scalar.subi v108 c1_i32_53
  let c8_i32 : BitVec 32 := 8#32
  let v110 : BitVec 32 := Scalar.addi v109 c8_i32
  let c4_i32_54 : BitVec 32 := 4#32
  let v111 : BitVec 32 := Scalar.remsi v110 c4_i32_54
  let c512_i32_55 : BitVec 32 := 512#32
  let v112 : BitVec 32 := Scalar.muli v111 c512_i32_55
  let v113 : Index := Scalar.indexCast v112
  let c0_56 : Index := 0#32
  ![v113.toNat, 0]
def k0_off4 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.subi v2 c0_i32_52
  let c1_i32_53 : BitVec 32 := 1#32
  let v109 : BitVec 32 := Scalar.subi v108 c1_i32_53
  let c8_i32 : BitVec 32 := 8#32
  let v110 : BitVec 32 := Scalar.addi v109 c8_i32
  let c4_i32_54 : BitVec 32 := 4#32
  let v111 : BitVec 32 := Scalar.remsi v110 c4_i32_54
  let c512_i32_55 : BitVec 32 := 512#32
  let v112 : BitVec 32 := Scalar.muli v111 c512_i32_55
  let v128 : Index := Scalar.indexCast v112
  let c0_62 : Index := 0#32
  ![v128.toNat, 0]
def k0_dev4 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v210 : BitVec 32 := Scalar.muli v7 c1_i32_113
  let v211 : BitVec 32 := Scalar.addi c0_i32_114 v210
  v211.toNat
def k0_dev5 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_181 : BitVec 32 := 1#32
  let v322 : BitVec 32 := Scalar.muli v7 c1_i32_181
  let v323 : BitVec 32 := Scalar.addi c0_i32_182 v322
  v323.toNat
def k0_dev6 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_251 : BitVec 32 := 1#32
  let v436 : BitVec 32 := Scalar.muli v7 c1_i32_251
  let v437 : BitVec 32 := Scalar.addi c0_i32_252 v436
  v437.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_245 : BitVec 32 := 1#32
  let v434 : BitVec 32 := Scalar.addi v2 c1_i32_245
  let c4_i32_246 : BitVec 32 := 4#32
  let v435 : BitVec 32 := Scalar.remsi v434 c4_i32_246
  let c512_i32_257 : BitVec 32 := 512#32
  let v446 : BitVec 32 := Scalar.muli v435 c512_i32_257
  let v447 : Index := Scalar.indexCast v446
  let c0_258 : Index := 0#32
  ![v447.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_245 : BitVec 32 := 1#32
  let v434 : BitVec 32 := Scalar.addi v2 c1_i32_245
  let c4_i32_246 : BitVec 32 := 4#32
  let v435 : BitVec 32 := Scalar.remsi v434 c4_i32_246
  let c512_i32_257 : BitVec 32 := 512#32
  let v446 : BitVec 32 := Scalar.muli v435 c512_i32_257
  let v453 : Index := Scalar.indexCast v446
  let c0_262 : Index := 0#32
  ![v453.toNat, 0]
def k0_off7 (d0 : Dev nD) (c0_i32_268 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v463 : BitVec 32 := Scalar.subi v2 c0_i32_268
  let c8_i32_269 : BitVec 32 := 8#32
  let v464 : BitVec 32 := Scalar.addi v463 c8_i32_269
  let c4_i32_270 : BitVec 32 := 4#32
  let v465 : BitVec 32 := Scalar.remsi v464 c4_i32_270
  let c512_i32_271 : BitVec 32 := 512#32
  let v466 : BitVec 32 := Scalar.muli v465 c512_i32_271
  let v467 : Index := Scalar.indexCast v466
  let c0_272 : Index := 0#32
  ![v467.toNat, 0]
def k0_off8 (d0 : Dev nD) (c0_i32_268 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v463 : BitVec 32 := Scalar.subi v2 c0_i32_268
  let c8_i32_269 : BitVec 32 := 8#32
  let v464 : BitVec 32 := Scalar.addi v463 c8_i32_269
  let c4_i32_270 : BitVec 32 := 4#32
  let v465 : BitVec 32 := Scalar.remsi v464 c4_i32_270
  let c512_i32_271 : BitVec 32 := 512#32
  let v466 : BitVec 32 := Scalar.muli v465 c512_i32_271
  let v473 : Index := Scalar.indexCast v466
  let c0_276 : Index := 0#32
  ![v473.toNat, 0]
def k0_dev7 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_296 : BitVec 32 := 1#32
  let v491 : BitVec 32 := Scalar.muli v7 c1_i32_296
  let v492 : BitVec 32 := Scalar.addi c0_i32_297 v491
  v492.toNat
def k0_dev8 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_329 : BitVec 32 := 1#32
  let v529 : BitVec 32 := Scalar.muli v7 c1_i32_329
  let v530 : BitVec 32 := Scalar.addi c0_i32_330 v529
  v530.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S2048x16 : Shape := ⟨2, ![2048, 16]⟩
abbrev S_ : Shape := ⟨0, ![]⟩
abbrev S2048 : Shape := ⟨1, ![2048]⟩
abbrev S2048x1024 : Shape := ⟨2, ![2048, 1024]⟩
abbrev S2048x16x1 : Shape := ⟨3, ![2048, 16, 1]⟩
abbrev S2048x16x1024 : Shape := ⟨3, ![2048, 16, 1024]⟩
abbrev S2048x1x1 : Shape := ⟨3, ![2048, 1, 1]⟩
abbrev S16 : Shape := ⟨1, ![16]⟩
abbrev S1x16x1 : Shape := ⟨3, ![1, 16, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S16x512x1024, .f32⟩
  | .hbm, ⟨4, _⟩ => ⟨S512x1024, .f32⟩
  | .hbm, ⟨5, _⟩ => ⟨S2048x16, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x16, .f32⟩
  | .hbm, ⟨16, _⟩ => ⟨S2048x16, .f32⟩
  | .hbm, ⟨17, _⟩ => ⟨S2048x1024, .f32⟩
  | .hbm, ⟨18, _⟩ => ⟨S2048x16x1, .f32⟩
  | .hbm, ⟨19, _⟩ => ⟨S2048x16x1024, .f32⟩
  | .hbm, ⟨20, _⟩ => ⟨S2048x16x1024, .f32⟩
  | .hbm, ⟨21, _⟩ => ⟨S2048x16x1024, .f32⟩
  | .hbm, ⟨22, _⟩ => ⟨S2048x1x1, .i32⟩
  | .hbm, ⟨23, _⟩ => ⟨S16, .i32⟩
  | .hbm, ⟨24, _⟩ => ⟨S1x16x1, .i32⟩
  | .hbm, ⟨25, _⟩ => ⟨S2048x16x1, .i32⟩
  | .hbm, ⟨26, _⟩ => ⟨S2048x16x1, .i32⟩
  | .hbm, ⟨27, _⟩ => ⟨S2048x16x1, .i1⟩
  | .hbm, ⟨28, _⟩ => ⟨S_, .f32⟩
  | .hbm, ⟨29, _⟩ => ⟨S_, .f32⟩
  | .hbm, ⟨30, _⟩ => ⟨S2048x16x1024, .i1⟩
  | .hbm, ⟨31, _⟩ => ⟨S2048x16x1024, .f32⟩
  | .hbm, ⟨32, _⟩ => ⟨S2048x16x1024, .f32⟩
  | .hbm, ⟨33, _⟩ => ⟨S_, .f32⟩
  | .hbm, ⟨34, _⟩ => ⟨S2048x1024, .f32⟩
  | .hbm, ⟨35, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Contents.lean ====
/-
# What every buffer of the run holds

Four devices; device `c` holds the whole token array, the router, the routing indices, the shared expert and ITS four
of the sixteen routed experts. The tokens fall into four chunks of 512 rows. `partAt c a` is what device `c`'s four
experts contribute to chunk `a`; `acc c s` what device `c` holds of the running sum after `s` hops of the
reduce-scatter around the ring; `sumOf a` the complete routed sum of chunk `a`, finished on the device before `a`
and then passed on; `fullAt c a` the rows device `c` writes to chunk `a` of its result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring
public import Idealize.ShloMosaic.Lib.Tactic

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of four -/

/-- The device after `c`; -/
def nxt (c : Dev nD) : Dev nD := ⟨(c.val + 1) % 4, Nat.mod_lt _ (by decide)⟩
/-- the device before it; -/
def prv (c : Dev nD) : Dev nD := ⟨(c.val + 3) % 4, Nat.mod_lt _ (by decide)⟩
/-- the device `s` places before it, which is also the number of a chunk. -/
def back (c : Dev nD) (s : ℕ) : Dev nD := ⟨(c.val + 8 - s) % 4, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide

/-- Going round the ring, as an equivalence. -/
def around : Dev nD ≃ Dev nD := ⟨nxt, prv, prv_nxt, nxt_prv⟩

/-! ## One device's contribution to one chunk

The text is that of the kernel's own chain of vector operations, written once for its four occurrences. -/

/-- The router's probabilities for the rows `x`. -/
def probsOf (x : Vec F S512x512 .f32) (rw : Vec F S512x16 .f32) : FVec F S512x16 .f32 :=
  have sc : FVec F S512x16 .f32 := matmul dot_S512x512_S512x16_S512x16_1_0_0_1_n_n none
    (shapeCast S512x512 x shapeCasts_S512x512_S512x512) (shapeCast S512x16 rw shapeCasts_S512x16_S512x16) (constant S512x16 .f32 0x00000000#32)
  have ex : FVec F S512x16 .f32 := exp (subf sc (broadcastTo S512x16
    (shapeCast S512x1 (multiReduction .maximumf [1] S512 sc 0xFF800000#32 reduces_S512x16_S512 (.inl rfl) rfl) shapeCasts_S512_S512x1) broadcasts_S512x1_S512x16))
  divf ex (broadcastTo S512x16
    (shapeCast S512x1 (multiReduction .add [1] S512 ex 0x00000000#32 reduces_S512x16_S512 (.inl rfl) rfl) shapeCasts_S512_S512x1) broadcasts_S512x1_S512x16)

/-- The routed expert's probability, row by row: the probabilities masked by "this column is the row's index", summed. -/
def pickOf (p : FVec F S512x16 .f32) (ir : Vec F S512x1 .i32) : FVec F S512x1 .f32 :=
  shapeCast S512x1 (multiReduction .add [1] S512
    (mulf p (sitofp .f32 (extui 32 (cmpi .eq (iota .tc S512x16 32 [1] iota_S512x16_d1_w32)
      (broadcastTo S512x16 (shapeCast S512x1 ir shapeCasts_S512x1_S512x1) broadcasts_S512x1_S512x16)) natLt_1_32)))
    0x00000000#32 reduces_S512x16_S512 (.inl rfl) rfl) shapeCasts_S512_S512x1

/-- The gate of expert number `e`: the picked probability in the rows routed to `e`, zero in the others. -/
def gateOf (e : BitVec 32) (pk : FVec F S512x1 .f32) (ir : Vec F S512x1 .i32) : FVec F S512x1 .f32 :=
  mulf pk (sitofp .f32 (extui 32 (cmpi .eq (shapeCast S512x1 ir shapeCasts_S512x1_S512x1) (broadcast S512x1 e)) natLt_1_32))

/-- The gated rows through one expert's matrix. -/
def expertOf (g : FVec F S512x1 .f32) (x : Vec F S512x512 .f32) (w : Vec F S1x512x1024 .f32) : FVec F S512x1024 .f32 :=
  matmul dot_S512x512_S512x1024_S512x1024_1_0_0_1_n_n none
    (mulf (shapeCast S512x512 x shapeCasts_S512x512_S512x512) (broadcastTo S512x512 g broadcasts_S512x1_S512x512))
    (shapeCast S512x1024 w shapeCasts_S1x512x1024_S512x1024) (constant S512x1024 .f32 0x00000000#32)

/-- The word naming expert `k` of the device named `v`: `4 * v + k`. -/
def expertWord (v k : BitVec 32) : BitVec 32 := Scalar.addi (Scalar.muli v 4#32) k

/-- The four experts of the device named `v` on the rows `x`, added in order. -/
def partOf (v : BitVec 32) (x : Vec F S512x512 .f32) (rw : Vec F S512x16 .f32) (ir : Vec F S512x1 .i32)
    (w0 w1 w2 w3 : Vec F S1x512x1024 .f32) : FVec F S512x1024 .f32 :=
  have pk : FVec F S512x1 .f32 := pickOf (probsOf x rw) ir
  shapeCast S512x1024
    (addf (addf (addf (addf (broadcast S512x1024 (Scalar.ofBits .f32 0x00000000#32))
      (expertOf (gateOf (expertWord v 0#32) pk ir) x w0))
      (expertOf (gateOf (expertWord v 1#32) pk ir) x w1))
      (expertOf (gateOf (expertWord v 2#32) pk ir) x w2))
      (expertOf (gateOf (expertWord v 3#32) pk ir) x w3))
    shapeCasts_S512x1024_S512x1024

/-- The shared expert on the rows `x`. -/
def sharedOf (x : Vec F S512x512 .f32) (w : Vec F S512x1024 .f32) : FVec F S512x1024 .f32 :=
  matmul dot_S512x512_S512x1024_S512x1024_1_0_0_1_n_n none
    (shapeCast S512x512 x shapeCasts_S512x512_S512x512) (shapeCast S512x1024 w shapeCasts_S512x1024_S512x1024) (constant S512x1024 .f32 0x00000000#32)

section Chains
variable (v : BitVec 32) (x : Vec F S512x512 .f32) (rw : Vec F S512x16 .f32) (ir : Vec F S512x1 .i32)
  (w0 w1 w2 w3 : Vec F S1x512x1024 .f32)

/-- The chain of the first chunk (the device's own) computes `partOf`; -/
theorem chain0 :
    k0_pay7 v (k0_pay1 x) (k0_pay3 ir) (k0_pay4 (k0_pay2 x rw) (k0_pay3 ir) (iota .tc S512x16 32 [1] iota_S512x16_d1_w32))
      (k0_pay5 v (k0_pay1 x) (k0_pay2 x rw) (k0_pay3 ir) (iota .tc S512x16 32 [1] iota_S512x16_d1_w32) w0 w1)
      (k0_pay6 v (k0_pay1 x) (k0_pay2 x rw) (k0_pay3 ir) (iota .tc S512x16 32 [1] iota_S512x16_d1_w32)) w2 w3
      = partOf v x rw ir w0 w1 w2 w3 := rfl

/-- so does that of the first hop, -/
theorem chain1 :
    k0_pay15 (k0_pay14 v (k0_pay8 x) (k0_pay9 ir) (k0_pay10 x rw ir) k0_pay11 (k0_pay12 v x rw ir) (k0_pay13 w0) w1 w2 w3)
      = partOf v x rw ir w0 w1 w2 w3 := rfl

/-- that of the second -/
theorem chain2 :
    k0_pay24 (k0_pay22 v (k0_pay17 x) (k0_pay18 ir) (k0_pay19 x rw ir) k0_pay20 (k0_pay21 v x rw ir) w0 w1 w2)
      (k0_pay23 v (k0_pay17 x) (k0_pay18 ir) (k0_pay19 x rw ir)) w3 = partOf v x rw ir w0 w1 w2 w3 := rfl

/-- and that of the third. -/
theorem chain3 :
    k0_pay33 (k0_pay31 v (k0_pay26 x) (k0_pay27 ir) (k0_pay28 x rw ir) k0_pay29 (k0_pay30 v ir) w0 w1 w2)
      (k0_pay32 v (k0_pay26 x) (k0_pay27 ir) (k0_pay28 x rw ir)) w3 = partOf v x rw ir w0 w1 w2 w3 := rfl

end Chains

/-! ## The contents, from the memory at launch -/

/-- Rows `512 * a` to `512 * a + 511` of the tokens, of the indices and of the result. -/
theorem rowsX_inb (a : Dev nD) : ∀ i, (![512 * a.val, 0] : Fin 2 → Nat) i + S512x512.size i ≤ S2048x512.size i := by revert a; decide
theorem rowsI_inb (a : Dev nD) : ∀ i, (![512 * a.val, 0] : Fin 2 → Nat) i + S512x1.size i ≤ S2048x1.size i := by revert a; decide
theorem rowsO_inb (a : Dev nD) : ∀ i, (![512 * a.val, 0] : Fin 2 → Nat) i + S512x1024.size i ≤ S2048x1024.size i := by revert a; decide
abbrev rowsX (a : Dev nD) : Rect S2048x512 := Rect.unit (s := S2048x512) ![512 * a.val, 0] S512x512.size (rowsX_inb a)
abbrev rowsI (a : Dev nD) : Rect S2048x1 := Rect.unit (s := S2048x1) ![512 * a.val, 0] S512x1.size (rowsI_inb a)
abbrev rowsO (a : Dev nD) : Rect S2048x1024 := Rect.unit (s := S2048x1024) ![512 * a.val, 0] S512x1024.size (rowsO_inb a)

section Mem
variable (m : (ℓ : Loc nD τ sig) → Buf (Elt F) ℓ)

/-- Each operand as the pipeline stages it on device `c`: the tokens, -/
def xS (c : Dev nD) : (cc0_stg0_0 : Ref sig .tc).ty.Contents (Elt F) := (win0_0.blk (0 : Fin 1)).view.read (Elt F) (m ((c : Thread nD τ).loc main_arg0))
/-- the router, -/
def rS (c : Dev nD) : (cc0_stg1_0 : Ref sig .tc).ty.Contents (Elt F) := (win0_1.blk (0 : Fin 1)).view.read (Elt F) (m ((c : Thread nD τ).loc main_arg1))
/-- the routing indices, -/
def iS (c : Dev nD) : (cc0_stg2_0 : Ref sig .tc).ty.Contents (Elt F) := (win0_2.blk (0 : Fin 1)).view.read (Elt F) (m ((c : Thread nD τ).loc main_arg2))
/-- the device's four experts, -/
def eS (c : Dev nD) : (cc0_stg3_0 : Ref sig .tc).ty.Contents (Elt F) := (win0_3.blk (0 : Fin 1)).view.read (Elt F) (m ((c : Thread nD τ).loc main_arg3))
/-- the shared expert. -/
def sS (c : Dev nD) : (cc0_stg4_0 : Ref sig .tc).ty.Contents (Elt F) := (win0_4.blk (0 : Fin 1)).view.read (Elt F) (m ((c : Thread nD τ).loc main_arg4))

/-- The rows of chunk `a`: the tokens', -/
def xr (c a : Dev nD) : Vec F S512x512 .f32 := (Memref.whole cc0_stg0_0 : Memref sig .tc .vmem S2048x512 .f32).view.readAt (Elt F) (rowsX a).toLoadRect (xS m c)
/-- the indices'. -/
def ir (c a : Dev nD) : Vec F S512x1 .i32 := (Memref.whole cc0_stg2_0 : Memref sig .tc .vmem S2048x1 .i32).view.readAt (Elt F) (rowsI a).toLoadRect (iS m c)

/-- The rectangle of expert `k` of the device's four. -/
theorem rectE_inb (k : Fin 4) : ∀ i, (![k.val, 0, 0] : Fin 3 → Nat) i + S1x512x1024.size i ≤ S4x512x1024.size i := by revert k; decide
abbrev rectE (k : Fin 4) : Rect S4x512x1024 := Rect.unit (s := S4x512x1024) ![k.val, 0, 0] S1x512x1024.size (rectE_inb k)
/-- Expert `k` of the device's four. -/
def ew (c : Dev nD) (k : Fin 4) : Vec F S1x512x1024 .f32 :=
  (Memref.whole cc0_stg3_0 : Memref sig .tc .vmem S4x512x1024 .f32).view.readAt (Elt F) (rectE k).toLoadRect (eS m c)

/-- The word that names the device: its place on the ring, as the kernel computes it. -/
def wordOf (c : Dev nD) : BitVec 32 := Scalar.remsi (Scalar.divsi (Dev.word c) 1#32) 4#32

/-- What device `c`'s four experts contribute to chunk `a`; -/
def partAt (c a : Dev nD) : FVec F S512x1024 .f32 :=
  partOf (wordOf c) (xr m c a) (rS m c) (ir m c a) (ew m c 0) (ew m c 1) (ew m c 2) (ew m c 3)
/-- what the shared expert does. -/
def sharedAt (c a : Dev nD) : FVec F S512x1024 .f32 := sharedOf (xr m c a) (sS m c)

/-- The running sum device `c` holds after `s` hops: its own part, added onto what the device before it held a hop earlier. -/
def acc : Dev nD → ℕ → FVec F S512x1024 .f32
  | c, 0 => partAt m c c
  | c, s + 1 => addf (acc (prv c) s) (partAt m c (back c (s + 1)))

/-- What device `c` sends at transfer `s`: three running sums, then its finished chunk, then the two finished chunks it was passed. -/
def val (c : Dev nD) : Fin 6 → FVec F S512x1024 .f32
  | 0 => acc m c 0 | 1 => acc m c 1 | 2 => acc m c 2 | 3 => acc m c 3 | 4 => acc m (prv c) 3 | 5 => acc m (prv (prv c)) 3

/-- The rows of chunk `a` of device `c`'s result: the shared expert's, and the routed sum finished on the device before `a`. -/
def fullAt (c a : Dev nD) : FVec F S512x1024 .f32 := addf (sharedAt m c a) (acc m (prv a) 3)

end Mem

end Cert.MoeRing

end
-- ==== Proof.Protocol.lean ====
/-
# The protocol of the six transfers

Every device signals both its neighbours' barrier semaphore and waits for two signals on its own; then, six times, it
copies a slot into the next slot of the device after it and waits for the copy from the device before it. One cell per
device for the barrier, one for each of the six send semaphores and one for each of the six receive semaphores; each
cell has the one round 0.

The signal a device gives its left neighbour carries the six slots that neighbour will write. A transfer's arrival
carries the written slot with its contents; its departure gives the read slot back. The fourth transfer lends only half
of its source, because the kernel reads that slot while the copy is under way.
-/
module

public import proofs.«01_k».proof.Proof.Contents

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's copy of the rounds (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Slots and semaphores -/

/-- The four slots of the reduce-scatter -/
abbrev b0 : Memref sig .tc .vmem S512x1024 .f32 := ((Memref.whole cc0_scratch0).slice (Rect.unit (s := S4x512x1024) ![0, 0, 0] S1x512x1024.size inb_S4x512x1024_S1x512x1024_0_0_0) (fun _ => rfl)).squeeze S512x1024 squeezes_S1x512x1024_S512x1024
abbrev b1 : Memref sig .tc .vmem S512x1024 .f32 := ((Memref.whole cc0_scratch0).slice (Rect.unit (s := S4x512x1024) ![1, 0, 0] S1x512x1024.size inb_S4x512x1024_S1x512x1024_1_0_0) (fun _ => rfl)).squeeze S512x1024 squeezes_S1x512x1024_S512x1024
abbrev b2 : Memref sig .tc .vmem S512x1024 .f32 := ((Memref.whole cc0_scratch0).slice (Rect.unit (s := S4x512x1024) ![2, 0, 0] S1x512x1024.size inb_S4x512x1024_S1x512x1024_2_0_0) (fun _ => rfl)).squeeze S512x1024 squeezes_S1x512x1024_S512x1024
abbrev b3 : Memref sig .tc .vmem S512x1024 .f32 := ((Memref.whole cc0_scratch0).slice (Rect.unit (s := S4x512x1024) ![3, 0, 0] S1x512x1024.size inb_S4x512x1024_S1x512x1024_3_0_0) (fun _ => rfl)).squeeze S512x1024 squeezes_S1x512x1024_S512x1024
/-- and the three of the all-gather. -/
abbrev a0 : Memref sig .tc .vmem S512x1024 .f32 := ((Memref.whole cc0_scratch1).slice (Rect.unit (s := S3x512x1024) ![0, 0, 0] S1x512x1024.size inb_S3x512x1024_S1x512x1024_0_0_0) (fun _ => rfl)).squeeze S512x1024 squeezes_S1x512x1024_S512x1024
abbrev a1 : Memref sig .tc .vmem S512x1024 .f32 := ((Memref.whole cc0_scratch1).slice (Rect.unit (s := S3x512x1024) ![1, 0, 0] S1x512x1024.size inb_S3x512x1024_S1x512x1024_1_0_0) (fun _ => rfl)).squeeze S512x1024 squeezes_S1x512x1024_S512x1024
abbrev a2 : Memref sig .tc .vmem S512x1024 .f32 := ((Memref.whole cc0_scratch1).slice (Rect.unit (s := S3x512x1024) ![2, 0, 0] S1x512x1024.size inb_S3x512x1024_S1x512x1024_2_0_0) (fun _ => rfl)).squeeze S512x1024 squeezes_S1x512x1024_S512x1024

/-- What each transfer reads -/
abbrev srcM : Fin 6 → Memref sig .tc .vmem S512x1024 .f32 | 0 => b0 | 1 => b1 | 2 => b2 | 3 => b3 | 4 => a0 | 5 => a1
/-- and writes, -/
abbrev dstM : Fin 6 → Memref sig .tc .vmem S512x1024 .f32 | 0 => b1 | 1 => b2 | 2 => b3 | 3 => a0 | 4 => a1 | 5 => a2
/-- its send semaphore -/
abbrev sendQ : Fin 6 → DmaSem sig
  | 0 => ((cc0_scratch3.slice (Rect.unit (s := S6) ![0] S1.size inb_S6_S1_0)).squeeze S_ squeezes_S1_S_).sem
  | 1 => ((cc0_scratch3.slice (Rect.unit (s := S6) ![1] S1.size inb_S6_S1_1)).squeeze S_ squeezes_S1_S_).sem
  | 2 => ((cc0_scratch3.slice (Rect.unit (s := S6) ![2] S1.size inb_S6_S1_2)).squeeze S_ squeezes_S1_S_).sem
  | 3 => ((cc0_scratch3.slice (Rect.unit (s := S6) ![3] S1.size inb_S6_S1_3)).squeeze S_ squeezes_S1_S_).sem
  | 4 => ((cc0_scratch3.slice (Rect.unit (s := S6) ![4] S1.size inb_S6_S1_4)).squeeze S_ squeezes_S1_S_).sem
  | 5 => ((cc0_scratch3.slice (Rect.unit (s := S6) ![5] S1.size inb_S6_S1_5)).squeeze S_ squeezes_S1_S_).sem
/-- and its receive semaphore. -/
abbrev recvQ : Fin 6 → DmaSem sig
  | 0 => ((cc0_scratch4.slice (Rect.unit (s := S6) ![0] S1.size inb_S6_S1_0)).squeeze S_ squeezes_S1_S_).sem
  | 1 => ((cc0_scratch4.slice (Rect.unit (s := S6) ![1] S1.size inb_S6_S1_1)).squeeze S_ squeezes_S1_S_).sem
  | 2 => ((cc0_scratch4.slice (Rect.unit (s := S6) ![2] S1.size inb_S6_S1_2)).squeeze S_ squeezes_S1_S_).sem
  | 3 => ((cc0_scratch4.slice (Rect.unit (s := S6) ![3] S1.size inb_S6_S1_3)).squeeze S_ squeezes_S1_S_).sem
  | 4 => ((cc0_scratch4.slice (Rect.unit (s := S6) ![4] S1.size inb_S6_S1_4)).squeeze S_ squeezes_S1_S_).sem
  | 5 => ((cc0_scratch4.slice (Rect.unit (s := S6) ![5] S1.size inb_S6_S1_5)).squeeze S_ squeezes_S1_S_).sem

/-- The barrier semaphore. -/
abbrev barS : Sem sig := (SemArray.scalar (sig.barrier 0 rfl) : Sems sig S_).sem

/-- What a cell of the ring is for: the barrier, a send, a receive. -/
abbrev Role : Type := Unit ⊕ (Fin 6 ⊕ Fin 6)
abbrev csem : Role → SemLoc sig
  | .inl _ => .reg barS
  | .inr (.inl s) => .dma (sendQ s)
  | .inr (.inr s) => .dma (recvQ s)
/-- The kernel's own semaphores. -/
abbrev osem : Fin 6 ⊕ Fin 6 → SemLoc sig
  | .inl s => .dma (sendQ s)
  | .inr s => .dma (recvQ s)

/-- What a semaphore is for, if it is one of the ring's: the numbering of the program's semaphores, read backwards. -/
def role : SemLoc sig → Option Role
  | .reg _ => some (.inl ())
  | .dma q => if q.val < 6 then none else if h : q.val - 6 < 6 then some (.inr (.inl ⟨q.val - 6, h⟩))
      else if h : q.val - 12 < 6 then some (.inr (.inr ⟨q.val - 12, h⟩)) else none

theorem role_csem (k : Role) : role (csem k) = some k := by revert k; decide

abbrev kcell (ck : Dev nD × Role) : GSem nD τ sig := ((ck.1 : Thread nD τ), csem ck.2)
abbrev barCell (c : Dev nD) : GSem nD τ sig := ((c : Thread nD τ), .reg barS)
abbrev sendCell (c : Dev nD) (s : Fin 6) : GSem nD τ sig := ((c : Thread nD τ), .dma (sendQ s))
abbrev recvCell (c : Dev nD) (s : Fin 6) : GSem nD τ sig := ((c : Thread nD τ), .dma (recvQ s))

theorem role_bar : role (.reg barS) = some (.inl ()) := rfl
theorem role_send (s : Fin 6) : role (.dma (sendQ s)) = some (.inr (.inl s)) := role_csem (.inr (.inl s))
theorem role_recv (s : Fin 6) : role (.dma (recvQ s)) = some (.inr (.inr s)) := role_csem (.inr (.inr s))

/-- The credit of one slot. -/
abbrev N : ℕ := (b0 : Memref sig .tc .vmem S512x1024 .f32).view.dmaCredit
theorem N_pos : 0 < N := View.dmaCredit_pos _ (by decide)
theorem credit_dst (s : Fin 6) : (dstM s).view.dmaCredit = N := by fin_cases s <;> rfl
theorem credit_src (s : Fin 6) : (srcM s).view.dmaCredit = N := by fin_cases s <;> rfl

/-! ## What the cells carry -/

/-- A slot whose contents do not matter. -/
def anySlot (c : Dev nD) (M : Memref sig .tc .vmem S512x1024 .f32) : sProp 𝕄 :=
  iprop(∃ f, M.view.loc (c : Thread nD τ) ↦[M.view.set]{fullShare} f)
/-- A slot holding `X`. -/
abbrev slot (c : Dev nD) (M : Memref sig .tc .vmem S512x1024 .f32) (q : PosShare TreeShare) (X : FVec F S512x1024 .f32) : sProp 𝕄 :=
  owns (Ix := Unit) (Name := ℕ) (U := UU) (Lvl := ℕ) (c : Thread nD τ) M q X

/-- The share of its source a transfer borrows. -/
def lent : Fin 6 → PosShare TreeShare | 3 => fullShare.left | _ => fullShare

/-- The six slots a neighbour's barrier signal hands over. -/
def barPay (c : Dev nD) : sProp 𝕄 := bigSep Finset.univ fun s : Fin 6 => anySlot (F := F) (nxt c) (dstM s)
def recvPay (c : Dev nD) (s : Fin 6) : sProp 𝕄 := slot c (dstM s) fullShare (val m (prv c) s)
def sendPay (c : Dev nD) (s : Fin 6) : sProp 𝕄 := slot c (srcM s) (lent s) (val m c s)

/-- The schedule: round 0 alone. -/
def ringRd : Rounds.Schedule (GSem nD τ sig) Bool 𝕄 where
  duties g r := if r = 0 ∧ g.1.2 = .tc then (match role g.2 with | some (.inl _) => Finset.univ | some (.inr _) => {false} | none => ∅) else ∅
  unitless _ := False
  amount g _ _ := match role g.2 with | some (.inl _) => 1 | _ => N
  payload g _ d := match role g.2 with
    | some (.inl _) => if d then barPay g.1.1 else iprop(emp)
    | some (.inr (.inl s)) => sendPay m g.1.1 s
    | some (.inr (.inr s)) => recvPay m g.1.1 s
    | none => iprop(emp)
  amount_pos g _ _ _ := by
    split
    · exact Nat.one_pos
    · exact N_pos

omit [FloatOps F] in
instance anySlot_storable (c : Dev nD) (M) : BI.Storable (upEmb : UEmb _ 𝕄) (anySlot (F := F) c M) := by unfold anySlot; infer_instance

instance ringRd_payload_storable (g : GSem nD τ sig) (r : ℕ) (d : Bool) :
    BI.Storable (upEmb : UEmb _ 𝕄) ((ringRd m).payload g r d) := by
  dsimp only [ringRd]
  unfold barPay recvPay sendPay
  (repeat' split) <;> infer_instance

section Sched
variable (c : Dev nD) (s : Fin 6)

theorem duties_bar : (ringRd m).duties (barCell c) 0 = Finset.univ := by
  dsimp only [ringRd]; rw [if_pos ⟨rfl, rfl⟩, role_bar]
theorem duties_send : (ringRd m).duties (sendCell c s) 0 = {false} := by
  dsimp only [ringRd]; rw [if_pos ⟨rfl, rfl⟩, role_send]
theorem duties_recv : (ringRd m).duties (recvCell c s) 0 = {false} := by
  dsimp only [ringRd]; rw [if_pos ⟨rfl, rfl⟩, role_recv]
theorem duties_later (g : GSem nD τ sig) : ∀ r, 1 ≤ r → (ringRd m).duties g r = ∅ :=
  fun r hr => by dsimp only [ringRd]; rw [if_neg fun h => by omega]

theorem amount_bar (d : Bool) : (ringRd m).amount (barCell c) 0 d = 1 := by dsimp only [ringRd]; rw [role_bar]
theorem amount_send (d : Bool) : (ringRd m).amount (sendCell c s) 0 d = N := by dsimp only [ringRd]; rw [role_send]
theorem amount_recv (d : Bool) : (ringRd m).amount (recvCell c s) 0 d = N := by dsimp only [ringRd]; rw [role_recv]

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd m).expect (sendCell c s) 0 = N := by
  unfold Schedule.expect Schedule.amountOf; rw [duties_send, Finset.sum_singleton, amount_send]
theorem expect_recv : (ringRd m).expect (recvCell c s) 0 = N := by
  unfold Schedule.expect Schedule.amountOf; rw [duties_recv, Finset.sum_singleton, amount_recv]

theorem payload_bar_true : (ringRd m).payload (barCell c) 0 true = barPay c := by dsimp only [ringRd]; rw [role_bar]; exact if_pos rfl
theorem payload_bar_false : (ringRd m).payload (barCell c) 0 false = iprop(emp) := by dsimp only [ringRd]; rw [role_bar]; exact if_neg Bool.false_ne_true
theorem payload_send (d : Bool) : (ringRd m).payload (sendCell c s) 0 d = sendPay m c s := by dsimp only [ringRd]; rw [role_send]
theorem payload_recv (d : Bool) : (ringRd m).payload (recvCell c s) 0 d = recvPay m c s := by dsimp only [ringRd]; rw [role_recv]

/-- The whole round of a barrier cell: nothing from the left, the neighbour's six slots from the right. -/
theorem rest_bar : bigSep ((ringRd m).duties (barCell c) 0 \ ∅) (fun d => (ringRd m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd m).duties (sendCell c s) 0 \ ∅) (fun d => (ringRd m).payload (sendCell c s) 0 d) = sendPay m c s := by
  rw [Finset.sdiff_empty, duties_send, bigSep_singleton, payload_send]
theorem rest_recv : bigSep ((ringRd m).duties (recvCell c s) 0 \ ∅) (fun d => (ringRd m).payload (recvCell c s) 0 d) = recvPay m c s := by
  rw [Finset.sdiff_empty, duties_recv, bigSep_singleton, payload_recv]

end Sched

/-! ## What a device owes, and the levels -/

/-- What it owes while its last `k` transfers are still to start: their credit on the receive cells of the device after it. -/
def orem (c : Dev nD) : ℕ → CellTallies nD τ sig Unit
  | 0 => 0
  | k + 1 => orem c k + tallyAt (recvCell (nxt c) ⟨5 - k, Nat.lt_of_le_of_lt (Nat.sub_le 5 k) (by decide)⟩) () N

/-- At launch: all six, and a signal to each neighbour's barrier; the first signal goes to the left. -/
def O₁ (c : Dev nD) : CellTallies nD τ sig Unit := orem c 6 + tallyAt (barCell (nxt c)) () 1
def O₀ (c : Dev nD) : CellTallies nD τ sig Unit := O₁ c + tallyAt (barCell (prv c)) () 1

theorem orem_step (c : Dev nD) (s : Fin 6) : orem c (6 - s.val) = orem c (5 - s.val) + tallyAt (recvCell (nxt c) s) () N := by
  fin_cases s <;> rfl

def L (g : GSem nD τ sig) : Finset Unit := if g.1.2 = .tc then {()} else ∅
/-- Staging and send cells lowest, the barrier above them, the receive cells above it in the order of the transfers. -/
def lv (g : GSem nD τ sig) (_ : Unit) : ℕ := match role g.2 with | some (.inl _) => 1 | some (.inr (.inr s)) => 2 + s.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [role_bar]
theorem lv_recv (c : Dev nD) (s : Fin 6) : lv (recvCell c s) () = 2 + s.val := by dsimp only [lv]; rw [role_recv]

theorem orem_pos {c : Dev nD} {g : GSem nD τ sig} {u : Unit} : ∀ {k : ℕ}, k ≤ 6 → 0 < orem c k g u → ∃ s : Fin 6, 6 ≤ s.val + k ∧ g = recvCell (nxt c) s
  | 0, _, h => absurd h (Nat.lt_irrefl 0)
  | k + 1, hk, h => by
    unfold orem at h
    rw [Pi.add_apply, Finsupp.add_apply, tallyAt_apply] at h
    by_cases hg : g = recvCell (nxt c) ⟨5 - k, Nat.lt_of_le_of_lt (Nat.sub_le 5 k) (by decide)⟩ ∧ u = ()
    · exact ⟨_, by show 6 ≤ (5 - k) + (k + 1); omega, hg.1⟩
    · rw [if_neg hg, Nat.add_zero] at h
      obtain ⟨s, h1, h2⟩ := orem_pos (Nat.le_of_succ_le hk) h
      exact ⟨s, by omega, h2⟩

/-- A sum with two single units owes what the sum owes, and those two. -/
theorem add_two_pos (T : CellTallies nD τ sig Unit) (a b g : GSem nD τ sig) (u : Unit) (h : 0 < (T + tallyAt a () 1 + tallyAt b () 1) g u) :
    0 < T g u ∨ g = a ∨ g = b := by
  rw [Pi.add_apply, Finsupp.add_apply, Pi.add_apply, Finsupp.add_apply, tallyAt_apply, tallyAt_apply] at h
  by_cases ha : g = a
  · exact .inr (.inl ha)
  by_cases hb : g = b
  · exact .inr (.inr hb)
  rw [if_neg (fun h' => ha h'.1), if_neg (fun h' => hb h'.1)] at h
  exact .inl h

theorem O₀_pos {c : Dev nD} {g : GSem nD τ sig} {u : Unit} (h : 0 < O₀ c g u) :
    (∃ s : Fin 6, g = recvCell (nxt c) s) ∨ g = barCell (nxt c) ∨ g = barCell (prv c) :=
  (add_two_pos (orem c 6) _ _ g u h).imp_left fun h => (orem_pos (k := 6) (le_refl 6) h).imp fun s hs => hs.2

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | rfl | rfl <;> exact Finset.mem_singleton_self _)
      (fun p hp => by rw [Finset.mem_singleton.mp hp]; dsimp only [lv, role]; rw [if_pos hq])
      (fun g u hg => by
        rcases O₀_pos hg with ⟨s, rfl⟩ | rfl | rfl
        · rw [lv_recv]; omega
        · rw [lv_bar]; omega
        · rw [lv_bar]; omega)
  · rw [MayWait_zero]; iintro -; iempintro

/-- At its barrier wait a device owes receive cells only: all above its barrier cell. -/
theorem mayWait_bar (c : Dev nD) : (levAts L lv : sProp 𝕄) ⊢ MayWait (c : Thread nD τ) (.reg barS) () (orem c 6) :=
  MayOwe.of_cut (L := L) (lev := lv) 1 (fun p hp => by rw [Finset.mem_singleton.mp hp, L_tc]; exact Finset.mem_singleton_self _)
    (fun g u hg => by obtain ⟨s, -, rfl⟩ := orem_pos (le_refl 6) hg; exact Finset.mem_singleton_self _)
    (fun p hp => by rw [Finset.mem_singleton.mp hp]; exact le_of_eq (lv_bar c))
    (fun g u hg => by obtain ⟨s, -, rfl⟩ := orem_pos (le_refl 6) hg; rw [lv_recv]; omega)

/-- Waiting for arrival `s` it owes later transfers only. -/
theorem mayWait_recv (c : Dev nD) (s : Fin 6) : (levAts L lv : sProp 𝕄) ⊢ MayWait (c : Thread nD τ) (.dma (recvQ s)) () (orem c (5 - s.val)) :=
  MayOwe.of_cut (L := L) (lev := lv) (2 + s.val) (fun p hp => by rw [Finset.mem_singleton.mp hp, L_tc]; exact Finset.mem_singleton_self _)
    (fun g u hg => by obtain ⟨t, -, rfl⟩ := orem_pos (by omega) hg; exact Finset.mem_singleton_self _)
    (fun p hp => by rw [Finset.mem_singleton.mp hp]; exact le_of_eq (lv_recv c s))
    (fun g u hg => by obtain ⟨t, ht, rfl⟩ := orem_pos (by omega) hg; rw [lv_recv]; omega)

/-! ## The invariants and marks every device may use -/

/-- Every cell's invariant, at the names `K`, and the mark that it has reached round 0. -/
def records (K : Dev nD × Role → ℕ) : sProp 𝕄 :=
  iprop((bigSep Finset.univ fun ck : Dev nD × Role => cellInv ER (ringRd m) (K ck) (kcell ck))
    ∗ bigSep Finset.univ fun ck : Dev nD × Role => reached ER (kcell ck) 0)

instance records_persistent (K : Dev nD × Role → ℕ) : BI.Persistent (records m K) := by unfold records; infer_instance

theorem inv_at (K : Dev nD × Role → ℕ) (ck : Dev nD × Role) : records m K ⊢ cellInv ER (ringRd m) (K ck) (kcell ck) := by
  have h : (bigSep Finset.univ fun ck : Dev nD × Role => (cellInv ER (ringRd m) (K ck) (kcell ck) : sProp 𝕄)) ⊢ cellInv ER (ringRd m) (K ck) (kcell ck) :=
    bigSep_elim (Finset.mem_univ ck)
  unfold records
  iintro ⟨HI, -⟩
  iapply h; iexact HI
theorem reached_at (K : Dev nD × Role → ℕ) (ck : Dev nD × Role) : records m K ⊢ reached ER (kcell ck) 0 := by
  have h : (bigSep Finset.univ fun ck : Dev nD × Role => (reached ER (kcell ck) 0 : sProp 𝕄)) ⊢ reached ER (kcell ck) 0 := bigSep_elim (Finset.mem_univ ck)
  unfold records
  iintro ⟨-, HR⟩
  iapply h; iexact HR

end Cert.MoeRing

end
-- ==== Proof.Steps.lean ====
/-
# The kernel's operations, one rule each

Each rule says what one operation of the body takes and what it leaves, in the form the body's proof applies in program
order: loads of the staged operands, loads and stores of the slots, of the running sum and of a chunk's rows of the
result, the start of a transfer, and the two waits. A wait closes its cell at once: no cell has a second round.
-/
module

public import proofs.«01_k».proof.Proof.Protocol

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p` on device `c` ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer at contents `X`. -/
abbrev held (c : Dev nD) (b : Ref sig .tc) (X : b.ty.Contents (Elt F)) : sProp 𝕄 := iprop(((c : Thread nD τ).loc b) ↦{fullShare} X)

/-! ## The staged operands -/

/-- The five operands, staged. -/
def inp (c : Dev nD) : sProp 𝕄 :=
  iprop(held c cc0_stg0_0 (xS m c) ∗ held c cc0_stg1_0 (rS m c) ∗ held c cc0_stg2_0 (iS m c) ∗ held c cc0_stg3_0 (eS m c) ∗ held c cc0_stg4_0 (sS m c))

theorem zero2 : (![0, 0] : Fin 2 → Nat) = fun _ => 0 := funext fun a => by fin_cases a <;> rfl

section Loads

theorem read_r (f : (cc0_stg1_0 : Ref sig .tc).ty.Contents (Elt F)) (inb) :
    (Memref.whole cc0_stg1_0 : Memref sig .tc .vmem S512x16 .f32).view.readAt (Elt F) (Rect.unit (s := S512x16) ![0, 0] S512x16.size inb).toLoadRect f = f :=
  Memref.readAt_unit_zero (Elt F) cc0_stg1_0 zero2 _ f
theorem read_s (f : (cc0_stg4_0 : Ref sig .tc).ty.Contents (Elt F)) (inb) :
    (Memref.whole cc0_stg4_0 : Memref sig .tc .vmem S512x1024 .f32).view.readAt (Elt F) (Rect.unit (s := S512x1024) ![0, 0] S512x1024.size inb).toLoadRect f = f :=
  Memref.readAt_unit_zero (Elt F) cc0_stg4_0 zero2 _ f
theorem read_a (f : (cc0_scratch2 : Ref sig .tc).ty.Contents (Elt F)) (inb) :
    (Memref.whole cc0_scratch2 : Memref sig .tc .vmem S512x1024 .f32).view.readAt (Elt F) (Rect.unit (s := S512x1024) ![0, 0] S512x1024.size inb).toLoadRect f = f :=
  Memref.readAt_unit_zero (Elt F) cc0_scratch2 zero2 _ f
theorem write_a (f w : (cc0_scratch2 : Ref sig .tc).ty.Contents (Elt F)) (inb) :
    ((Memref.whole cc0_scratch2 : Memref sig .tc .vmem S512x1024 .f32).access (Rect.unit (s := S512x1024) ![0, 0] S512x1024.size inb) : View sig .tc _ _ _).write (Elt F) f w Finset.univ = w :=
  Memref.write_access_unit_zero_univ (Elt F) cc0_scratch2 zero2 _ f w

/-- The tokens of chunk `a`. -/
theorem ld_x (c a : Dev nD) {off : Fin 2 → Nat} (h : off = ![512 * a.val, 0]) {inb hl} {α : Type} {Q : α → sProp 𝕄} {k : Vec F S512x512 .f32 → Prog (TpuEff nD τ sig (Elt F) Λ₀ .tc) α} :
    inp m c ⊢ iprop((inp m c -∗ runs c (k (xr m c a)) Q)
      -∗ runs c (.op (.load (Memref.whole cc0_stg0_0) (Rect.unit (s := S2048x512) off S512x512.size inb).toLoadRect hl) k) Q) := by
  subst h
  unfold inp
  iintro ⟨H0, H1, H2, H3, H4⟩ Hk
  iapply (wp_load 𝒱₀ (c : Thread nD τ) none Set.univ (m := (Memref.whole cc0_stg0_0)) (Finset.subset_univ _)) $$ H0; iintro H0
  iapply Hk
  isplitl [H0]; · iexact H0
  isplitl [H1]; · iexact H1
  isplitl [H2]; · iexact H2
  isplitl [H3] <;> iassumption

/-- The router. -/
theorem ld_r (c : Dev nD) {inb hl} {α : Type} {Q : α → sProp 𝕄} {k : Vec F S512x16 .f32 → Prog (TpuEff nD τ sig (Elt F) Λ₀ .tc) α} :
    inp m c ⊢ iprop((inp m c -∗ runs c (k (rS m c)) Q)
      -∗ runs c (.op (.load (Memref.whole cc0_stg1_0) (Rect.unit (s := S512x16) ![0, 0] S512x16.size inb).toLoadRect hl) k) Q) := by
  unfold inp
  iintro ⟨H0, H1, H2, H3, H4⟩ Hk
  iapply (wp_load 𝒱₀ (c : Thread nD τ) none Set.univ (m := (Memref.whole cc0_stg1_0)) (Finset.subset_univ _)) $$ H1; iintro H1
  rw [read_r]
  iapply Hk
  isplitl [H0]; · iexact H0
  isplitl [H1]; · iexact H1
  isplitl [H2]; · iexact H2
  isplitl [H3] <;> iassumption

/-- The indices of chunk `a`. -/
theorem ld_i (c a : Dev nD) {off : Fin 2 → Nat} (h : off = ![512 * a.val, 0]) {inb hl} {α : Type} {Q : α → sProp 𝕄} {k : Vec F S512x1 .i32 → Prog (TpuEff nD τ sig (Elt F) Λ₀ .tc) α} :
    inp m c ⊢ iprop((inp m c -∗ runs c (k (ir m c a)) Q)
      -∗ runs c (.op (.load (Memref.whole cc0_stg2_0) (Rect.unit (s := S2048x1) off S512x1.size inb).toLoadRect hl) k) Q) := by
  subst h
  unfold inp
  iintro ⟨H0, H1, H2, H3, H4⟩ Hk
  iapply (wp_load 𝒱₀ (c : Thread nD τ) none Set.univ (m := (Memref.whole cc0_stg2_0)) (Finset.subset_univ _)) $$ H2; iintro H2
  iapply Hk
  isplitl [H0]; · iexact H0
  isplitl [H1]; · iexact H1
  isplitl [H2]; · iexact H2
  isplitl [H3] <;> iassumption

/-- Expert `e` of the device's four. -/
theorem ld_e (c : Dev nD) (e : Fin 4) {off : Fin 3 → Nat} (h : off = ![e.val, 0, 0]) {inb hl} {α : Type} {Q : α → sProp 𝕄} {k : Vec F S1x512x1024 .f32 → Prog (TpuEff nD τ sig (Elt F) Λ₀ .tc) α} :
    inp m c ⊢ iprop((inp m c -∗ runs c (k (ew m c e)) Q)
      -∗ runs c (.op (.load (Memref.whole cc0_stg3_0) (Rect.unit (s := S4x512x1024) off S1x512x1024.size inb).toLoadRect hl) k) Q) := by
  subst h
  unfold inp
  iintro ⟨H0, H1, H2, H3, H4⟩ Hk
  iapply (wp_load 𝒱₀ (c : Thread nD τ) none Set.univ (m := (Memref.whole cc0_stg3_0)) (Finset.subset_univ _)) $$ H3; iintro H3
  iapply Hk
  isplitl [H0]; · iexact H0
  isplitl [H1]; · iexact H1
  isplitl [H2]; · iexact H2
  isplitl [H3] <;> iassumption

/-- The shared expert. -/
theorem ld_s (c : Dev nD) {inb hl} {α : Type} {Q : α → sProp 𝕄} {k : Vec F S512x1024 .f32 → Prog (TpuEff nD τ sig (Elt F) Λ₀ .tc) α} :
    inp m c ⊢ iprop((inp m c -∗ runs c (k (sS m c)) Q)
      -∗ runs c (.op (.load (Memref.whole cc0_stg4_0) (Rect.unit (s := S512x1024) ![0, 0] S512x1024.size inb).toLoadRect hl) k) Q) := by
  unfold inp
  iintro ⟨H0, H1, H2, H3, H4⟩ Hk
  iapply (wp_load 𝒱₀ (c : Thread nD τ) none Set.univ (m := (Memref.whole cc0_stg4_0)) (Finset.subset_univ _)) $$ H4; iintro H4
  rw [read_s]
  iapply Hk
  isplitl [H0]; · iexact H0
  isplitl [H1]; · iexact H1
  isplitl [H2]; · iexact H2
  isplitl [H3] <;> iassumption

/-! ## The buffer of the running sum -/

theorem ld_a (c : Dev nD) (X : FVec F S512x1024 .f32) {inb hl} {α : Type} {Q : α → sProp 𝕄} {k : Vec F S512x1024 .f32 → Prog (TpuEff nD τ sig (Elt F) Λ₀ .tc) α} :
    held c cc0_scratch2 X ⊢ iprop((held c cc0_scratch2 X -∗ runs c (k X) Q)
      -∗ runs c (.op (.load (Memref.whole cc0_scratch2) (Rect.unit (s := S512x1024) ![0, 0] S512x1024.size inb).toLoadRect hl) k) Q) := by
  iintro H0 Hk
  iapply (wp_load 𝒱₀ (c : Thread nD τ) none Set.univ (m := (Memref.whole cc0_scratch2)) (Finset.subset_univ _)) $$ H0; iintro H0
  rw [read_a]
  iapply Hk; iexact H0

theorem st_a (c : Dev nD) (X Y : FVec F S512x1024 .f32) {inb hx hm} {α : Type} {Q : α → sProp 𝕄} {k : PUnit → Prog (TpuEff nD τ sig (Elt F) Λ₀ .tc) α} :
    held c cc0_scratch2 X ⊢ iprop((held c cc0_scratch2 Y -∗ runs c (k ⟨⟩) Q)
      -∗ runs c (.op (.store (Memref.whole cc0_scratch2) (Rect.unit (s := S512x1024) ![0, 0] S512x1024.size inb) Y Finset.univ hx hm) k) Q) := by
  iintro H0 Hk
  iapply (wp_store 𝒱₀ (c : Thread nD τ) none Set.univ (m := (Memref.whole cc0_scratch2)) (r := Rect.unit (s := S512x1024) ![0, 0] S512x1024.size inb)
    (Mk := Finset.univ) (Finset.subset_univ _)) $$ H0; iintro H0
  rw [write_a]
  iapply Hk; iexact H0

/-! ## A slot, a chunk's rows: a part of a buffer -/

variable {sh sh' : Shape} {e : EltTy}

/-- A part of a buffer at `X`. -/
abbrev has (c : Dev nD) (M : Memref sig .tc .vmem sh e) (q : PosShare TreeShare) (X : sh.Idx → Elt F e) : sProp 𝕄 :=
  owns (Ix := Unit) (Name := ℕ) (U := UU) (Lvl := ℕ) (c : Thread nD τ) M q X

theorem ld_slice (c : Dev nD) (M : Memref sig .tc .vmem sh e) (r : Rect sh) (hr : ∀ a, r.stride a = 1) (q : PosShare TreeShare) (X : r.shape.Idx → Elt F e)
    {hl} {α : Type} {Q : α → sProp 𝕄} {k : (r.shape.Idx → Elt F e) → Prog (TpuEff nD τ sig (Elt F) Λ₀ .tc) α} :
    has c (M.slice r hr) q X ⊢ iprop((has c (M.slice r hr) q X -∗ runs c (k X) Q) -∗ runs c (.op (.load M r.toLoadRect hl) k) Q) := by
  unfold has owns
  iintro ⟨%f, %hf, H⟩ Hk
  iapply (wp_load_rect 𝒱₀ (c : Thread nD τ) none Set.univ (m := M) (r := r) (S := (M.slice r hr).view.set) (Finset.Subset.refl _)) $$ H; iintro H
  rw [← hf]
  iapply Hk
  iexists f; isplitr; · (ipureintro; rfl)
  iexact H

theorem st_slice (c : Dev nD) (M : Memref sig .tc .vmem sh e) (r : Rect sh) (hr : ∀ a, r.stride a = 1) (X Y : r.shape.Idx → Elt F e)
    {hx hm} {α : Type} {Q : α → sProp 𝕄} {k : PUnit → Prog (TpuEff nD τ sig (Elt F) Λ₀ .tc) α} :
    has c (M.slice r hr) fullShare X ⊢ iprop((has c (M.slice r hr) fullShare Y -∗ runs c (k ⟨⟩) Q) -∗ runs c (.op (.store M r Y Finset.univ hx hm) k) Q) := by
  unfold has owns
  iintro ⟨%f, %hf, H⟩ Hk
  iapply (wp_store 𝒱₀ (c : Thread nD τ) none Set.univ (m := M) (r := r) (Mk := Finset.univ) (S := (M.slice r hr).view.set) (Finset.Subset.refl _)) $$ H; iintro H
  iapply Hk
  iexists (M.access r).write (Elt F) f Y Finset.univ
  isplitr
  · ipureintro; exact View.read_write_univ _ _
  iexact H

theorem ld_slot (c : Dev nD) (M : Memref sig .tc .vmem sh e) (r : Rect sh) (hr : ∀ a, r.stride a = 1) (sq : r.shape.Squeezes sh') (hc : r.shape.ShapeCasts sh') (q : PosShare TreeShare) (X : sh'.Idx → Elt F e)
    {hl} {α : Type} {Q : α → sProp 𝕄} {k : (r.shape.Idx → Elt F e) → Prog (TpuEff nD τ sig (Elt F) Λ₀ .tc) α} :
    has c ((M.slice r hr).squeeze sh' sq) q X ⊢ iprop((∀ v, ⌜shapeCast sh' v hc = X⌝ -∗ has c ((M.slice r hr).squeeze sh' sq) q X -∗ runs c (k v) Q)
      -∗ runs c (.op (.load M r.toLoadRect hl) k) Q) := by
  unfold has owns
  iintro ⟨%f, %hf, H⟩ Hk
  iapply (wp_load_rect 𝒱₀ (c : Thread nD τ) none Set.univ (m := M) (r := r) (S := ((M.slice r hr).squeeze sh' sq).view.set) (le_of_eq (View.set_reshape (M.access r) sq.numel_eq).symm)) $$ H; iintro H
  iapply Hk $$ %_ [] [H]
  · ipureintro; exact (Memref.read_squeeze_slice M r hr sq hc f).symm.trans hf
  iexists f; isplitr; · (ipureintro; exact hf)
  iexact H

theorem st_slot (c : Dev nD) (M : Memref sig .tc .vmem sh e) (r : Rect sh) (hr : ∀ a, r.stride a = 1) (sq : r.shape.Squeezes sh') (hc : r.shape.ShapeCasts sh')
    (f) (Y : r.shape.Idx → Elt F e)
    {hx hm} {α : Type} {Q : α → sProp 𝕄} {k : PUnit → Prog (TpuEff nD τ sig (Elt F) Λ₀ .tc) α} :
    (((M.slice r hr).squeeze sh' sq).view.loc (c : Thread nD τ) ↦[((M.slice r hr).squeeze sh' sq).view.set]{fullShare} f : sProp 𝕄)
      ⊢ iprop((has c ((M.slice r hr).squeeze sh' sq) fullShare (shapeCast sh' Y hc) -∗ runs c (k ⟨⟩) Q)
        -∗ runs c (.op (.store M r Y Finset.univ hx hm) k) Q) := by
  unfold has owns
  iintro H Hk
  iapply (wp_store 𝒱₀ (c : Thread nD τ) none Set.univ (m := M) (r := r) (Mk := Finset.univ) (S := ((M.slice r hr).squeeze sh' sq).view.set)
    (le_of_eq (View.set_reshape (M.access r) sq.numel_eq).symm)) $$ H; iintro H
  iapply Hk
  iexists (M.access r).write (Elt F) f Y Finset.univ
  isplitr
  · ipureintro
    exact (Memref.read_squeeze_slice M r hr sq hc _).trans (congrArg (fun v => shapeCast sh' v hc) (View.read_write_univ (v := M.access r) _ _))
  iexact H

end Loads

/-! ## Transfers and waits -/

section Ring
variable (K : Dev nD × Role → ℕ) {α : Type} {Q : α → sProp 𝕄}

/-- What device `c` still owes. -/
def owe (c : Dev nD) (O : CellTallies nD τ sig Unit) : sProp 𝕄 := iprop(∃ W, owes (c : Thread nD τ) O W)

/-- Transfer `s`: the source lent, the neighbour's slot given away, the credit to wait on the departure gained. -/
theorem do_send (c n : Dev nD) (hn : n = nxt c) (s : Fin 6)
    {hsc : (dstM s : Memref sig (Dev.tc n : Thread nD τ).2.kind .vmem S512x1024 .f32).view.ref.isScScratch = false}
    {hsrc : (srcM s).view.WordExact} {hdst : (dstM s : Memref sig (Dev.tc n : Thread nD τ).2.kind .vmem S512x1024 .f32).view.WordExact}
    {hsem : DmaTarget.Typed .vmem (.dma (recvQ s)) (.remote (Dev.tc n : Thread nD τ) (dstM s) (.dma (sendQ s)) hsc)}
    {α : Type} {Q : α → sProp 𝕄} {k : PUnit → Prog (TpuEff nD τ sig (Elt F) Λ₀ .tc) α} :
    iprop(records m K ∗ slot c (srcM s) (lent s) (val m c s) ∗ anySlot (nxt c) (dstM s) ∗ owe c (orem c (6 - s.val))
        ∗ dutyTok ER (sendCell c s) 0 false ∗ dutyTok ER (recvCell (nxt c) s) 0 false)
      ⊢ iprop(((cred (tallyAt (sendCell c s) () N) ∗ owe c (orem c (5 - s.val))) -∗ runs c (k ⟨⟩) Q)
          -∗ runs c (.op (.enqueueDma (srcM s) (.remote (Dev.tc n : Thread nD τ) (dstM s) (.dma (sendQ s)) hsc) (.dma (recvQ s)) hsrc hdst hsem) k) Q) := by
  subst hn
  unfold owe anySlot slot owns
  iintro ⟨#HR, ⟨%fs, %hfs, Hs⟩, ⟨%fd, Hd⟩, ⟨%W, HO⟩, Ht1, Ht2⟩ Hk
  iapply (Rounds.wp_send_pointsTo 𝒱₀ ER (ringRd m) (c : Thread nD τ) none (κ₁ := K (c, .inr (.inl s))) (κ₂ := K (nxt c, .inr (.inr s)))
    (r₁ := 0) (r₂ := 0) (d₁ := false) (d₂ := false) (fd := fd)
    (by rw [duties_send]; exact Finset.mem_singleton_self _) (by rw [duties_recv]; exact Finset.mem_singleton_self _)
    () () N (show (dstM s).view.amount (.dma (recvQ s)) = N from credit_dst s) (amount_send m c s false) (amount_recv m (nxt c) s false) (orem c (5 - s.val)) (orem_step c s) (W := W)
    (by rw [payload_send]; unfold sendPay; rw [← hfs]; exact owns_intro _ _ _ _)
    (by
      rw [payload_recv]; unfold recvPay; rw [prv_nxt, ← hfs]
      refine (owns_intro (nxt c : Thread nD τ) (dstM s) fullShare _).trans (Entails.of_eq ?_)
      rw [View.read_write_univ]))
    $$ [Hs Hd HO Ht1 Ht2]
  · isplitr; · iapply (inv_at m K (c, .inr (.inl s))); iexact HR
    isplitr; · iapply (inv_at m K (nxt c, .inr (.inr s))); iexact HR
    isplitl [Hs]; · iexact Hs
    isplitl [Hd]; · iexact Hd
    isplitl [HO]; · iexact HO
    isplitl [Ht1]; · iexact Ht1
    isplitr; · iapply (reached_at m K (c, .inr (.inl s))); iexact HR
    isplitl [Ht2]; · iexact Ht2
    iapply (reached_at m K (nxt c, .inr (.inr s))); iexact HR
  iintro ⟨Hc, HO⟩
  iapply Hk
  isplitl [Hc]; · iexact Hc
  iexists W; iexact HO

/-- The wait for arrival `s`: the slot, as the device before sent it; the cell is closed. -/
theorem wait_recv (c : Dev nD) (s : Fin 6) {cs : Space} {sh : Shape} {e : EltTy} {src : Memref sig .tc cs sh e} {h1 h2}
    {α : Type} {Q : α → sProp 𝕄} {k : PUnit → Prog (TpuEff nD τ sig (Elt F) Λ₀ .tc) α} :
    iprop(records m K ∗ levAts L lv ∗ cred (tallyAt (recvCell c s) () N) ∗ owe c (orem c (5 - s.val)) ∗ atPos ER (recvCell c s) 0 ∅ 0)
      ⊢ iprop(((owe c (orem c (5 - s.val)) ∗ slot c (dstM s) fullShare (val m (prv c) s) ∗ semVal (recvCell c s) 0) -∗ runs c (k ⟨⟩) Q)
          -∗ runs c (.op (.waitDma2 (recvQ s) src (dstM s) h1 h2) k) Q) := by
  unfold owe
  iintro ⟨#HR, #HL, Hc, ⟨%W, HO⟩, Ha⟩ Hk
  iapply (Rounds.wp_wait_rest_token 𝒱₀ ER (ringRd m) (c : Thread nD τ) none (κ := K (c, .inr (.inr s)))
      (wpE_waitDma2_eq 𝒱₀ (c : Thread nD τ) none Set.univ) (Set.mem_univ _) () (O := orem c (5 - s.val)) (W := W) (R := 0) (m := 0) (T := ∅)
      (by rw [Nat.zero_add, expect_recv])) $$ [Hc HO Ha]
  · isplitr; · iapply (inv_at m K (c, .inr (.inr s))); iexact HR
    isplitl [Hc]; · rw [credit_dst]; iexact Hc
    isplitl [HO]; · iexact HO
    isplitr; · iapply (mayWait_recv c s); iexact HL
    iexact Ha
  iintro ⟨HO, Ha, -, Hpay⟩
  ihave Hp := (Entails.of_eq (rest_recv m c s)) $$ Hpay
  imod (Rounds.cell_close ER (ringRd m) (Set.mem_univ (K (c, .inr (.inr s)))) (fun h => h) (R := 0 + 1) (duties_later m (recvCell c s))) $$ [Ha] with Hz
  · isplitr; · iapply (inv_at m K (c, .inr (.inr s))); iexact HR
    iexact Ha
  iapply Hk
  isplitl [HO]; · iexists _; iexact HO
  isplitl [Hp]; · unfold recvPay; iexact Hp
  iexact Hz

/-- The wait for departure `s`: the source back; the cell is closed. -/
theorem wait_send (c : Dev nD) (s : Fin 6) {cs : Space} {sh : Shape} {e : EltTy} {src : Memref sig .tc cs sh e} {h1 h2}
    {α : Type} {Q : α → sProp 𝕄} {k : PUnit → Prog (TpuEff nD τ sig (Elt F) Λ₀ .tc) α} :
    iprop(records m K ∗ cred (tallyAt (sendCell c s) () N) ∗ owe c 0 ∗ atPos ER (sendCell c s) 0 ∅ 0)
      ⊢ iprop(((owe c 0 ∗ slot c (srcM s) (lent s) (val m c s) ∗ semVal (sendCell c s) 0) -∗ runs c (k ⟨⟩) Q)
          -∗ runs c (.op (.waitDma2 (sendQ s) src (srcM s) h1 h2) k) Q) := by
  unfold owe
  iintro ⟨#HR, Hc, ⟨%W, HO⟩, Ha⟩ Hk
  iapply (Rounds.wp_wait_rest_token 𝒱₀ ER (ringRd m) (c : Thread nD τ) none (κ := K (c, .inr (.inl s)))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iapply (inv_at m K (c, .inr (.inl s))); iexact HR
    isplitl [Hc]; · rw [credit_src]; iexact Hc
    isplitl [HO]; · iexact HO
    isplitr; · rw [MayWait_zero]; iempintro
    iexact Ha
  iintro ⟨HO, Ha, -, Hpay⟩
  ihave Hp := (Entails.of_eq (rest_send m c s)) $$ Hpay
  imod (Rounds.cell_close ER (ringRd m) (Set.mem_univ (K (c, .inr (.inl s)))) (fun h => h) (R := 0 + 1) (duties_later m (sendCell c s))) $$ [Ha] with Hz
  · isplitr; · iapply (inv_at m K (c, .inr (.inl s))); iexact HR
    iexact Ha
  iapply Hk
  isplitl [HO]; · iexists _; iexact HO
  isplitl [Hp]; · unfold sendPay; iexact Hp
  iexact Hz

end Ring

end Cert.MoeRing

end
-- ==== Proof.Parts.lean ====
/-
# The body, part by part

The generated text cuts the kernel's body into parts; one theorem each says what a part takes and what it leaves. The
chains of vector operations appear only through a hypothesis naming what they compute.
-/
module

public import proofs.«01_k».proof.Proof.Steps

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A finished program. -/
theorem run_ret (c : Dev nD) {α : Type} {Q : α → sProp 𝕄} (a : α) : Q a ⊢ runs c (.ret a) Q := by
  unfold runs
  rw [wp_ret]
  iintro H
  imodintro
  iexact H

/-! ## The rows of one chunk of the result, in its staging buffer -/

abbrev oM : Memref sig .tc .vmem S2048x1024 .f32 := Memref.whole cc0_stg5_0
/-- Chunk `a` of device `c`'s result holds `Y`. -/
abbrev outRows (c a : Dev nD) (Y : FVec F S512x1024 .f32) : sProp 𝕄 := has c (oM.slice (rowsO a) (fun _ => rfl)) fullShare Y

theorem ld_o (c a : Dev nD) (Y : FVec F S512x1024 .f32) {off : Fin 2 → Nat} (h : off = ![512 * a.val, 0]) {inb hl} {α : Type} {Q : α → sProp 𝕄}
    {k : Vec F S512x1024 .f32 → Prog (TpuEff nD τ sig (Elt F) Λ₀ .tc) α} :
    outRows c a Y ⊢ iprop((outRows c a Y -∗ runs c (k Y) Q) -∗ runs c (.op (.load oM (Rect.unit (s := S2048x1024) off S512x1024.size inb).toLoadRect hl) k) Q) := by
  subst h
  exact ld_slice c oM (rowsO a) (fun _ => rfl) fullShare Y

theorem st_o (c a : Dev nD) (X Y : FVec F S512x1024 .f32) {off : Fin 2 → Nat} (h : off = ![512 * a.val, 0]) {inb hx hm} {α : Type} {Q : α → sProp 𝕄}
    {k : PUnit → Prog (TpuEff nD τ sig (Elt F) Λ₀ .tc) α} :
    outRows c a X ⊢ iprop((outRows c a Y -∗ runs c (k ⟨⟩) Q)
      -∗ runs c (.op (.store oM (Rect.unit (s := S2048x1024) off S512x1024.size inb) Y Finset.univ hx hm) k) Q) := by
  subst h
  exact st_slice c oM (rowsO a) (fun _ => rfl) X Y

/-! ## A whole slot through its own view -/

theorem ld_any (c : Dev nD) (M : Memref sig .tc .vmem S512x1024 .f32) {inb hl} {α : Type} {Q : α → sProp 𝕄}
    {k : Vec F S512x1024 .f32 → Prog (TpuEff nD τ sig (Elt F) Λ₀ .tc) α} :
    anySlot c M ⊢ iprop((∀ v, anySlot c M -∗ runs c (k v) Q)
      -∗ runs c (.op (.load M (Rect.unit (s := S512x1024) ![0, 0] S512x1024.size inb).toLoadRect hl) k) Q) := by
  unfold anySlot
  iintro ⟨%f, H⟩ Hk
  iapply (wp_load 𝒱₀ (c : Thread nD τ) none Set.univ (m := M) (View.setOn_subset_set _ _)) $$ H; iintro H
  iapply Hk
  iexists f; iexact H

theorem unit_emb (inb) (i : S512x1024.Idx) : (Rect.unit (s := S512x1024) ![0, 0] S512x1024.size inb).emb i = i :=
  funext fun a => Fin.ext (by
    rw [Rect.emb_apply]; show (![0, 0] : Fin 2 → Nat) a + 1 * (i a).val = (i a).val
    rw [zero2, Nat.one_mul, Nat.zero_add])

theorem st_any (c : Dev nD) (M : Memref sig .tc .vmem S512x1024 .f32) (Y : FVec F S512x1024 .f32) {inb hx hm} {α : Type} {Q : α → sProp 𝕄}
    {k : PUnit → Prog (TpuEff nD τ sig (Elt F) Λ₀ .tc) α} :
    anySlot c M ⊢ iprop((slot c M fullShare Y -∗ runs c (k ⟨⟩) Q)
      -∗ runs c (.op (.store M (Rect.unit (s := S512x1024) ![0, 0] S512x1024.size inb) Y Finset.univ hx hm) k) Q) := by
  unfold anySlot slot owns
  iintro ⟨%f, H⟩ Hk
  iapply (wp_store 𝒱₀ (c : Thread nD τ) none Set.univ (m := M) (r := Rect.unit (s := S512x1024) ![0, 0] S512x1024.size inb) (Mk := Finset.univ)
    (S := M.view.set) (View.set_slice_subset _ _)) $$ H; iintro H
  iapply Hk
  iexists (M.access (Rect.unit (s := S512x1024) ![0, 0] S512x1024.size inb)).write (Elt F) f Y Finset.univ
  isplitr
  · ipureintro
    funext i
    have h := congrFun (View.read_write_univ (v := M.access (Rect.unit (s := S512x1024) ![0, 0] S512x1024.size inb)) f Y) i
    rw [← h]
    show _ = M.view.read (Elt F) _ ((Rect.unit (s := S512x1024) ![0, 0] S512x1024.size inb).emb i)
    rw [unit_emb]
  iexact H

/-! ## The parts -/

theorem back_one (c : Dev nD) : back c 1 = prv c := by revert c; decide
theorem back_two (c : Dev nD) : back c 2 = prv (prv c) := by revert c; decide

variable (K : Dev nD × Role → ℕ)

set_option maxHeartbeats 1600000 in
/-- The barrier with both neighbours, and the operands of the device's own chunk. -/
theorem part1 (c : Dev nD) {Kt : _ → sProp 𝕄} :
    iprop(inp m c ∗ records m K ∗ levAts L lv ∗ cred (tallyAt (barCell c) () 2) ∗ owe c (O₀ c) ∗ atPos ER (barCell c) 0 ∅ 0
        ∗ dutyTok ER (barCell (prv c)) 0 true ∗ dutyTok ER (barCell (nxt c)) 0 false ∗ bigSep Finset.univ fun s : Fin 6 => anySlot (F := F) c (dstM s))
      ⊢ iprop(((inp m c ∗ owe c (orem c 6) ∗ semVal (barCell c) 0 ∗ bigSep Finset.univ fun s : Fin 6 => anySlot (F := F) (nxt c) (dstM s)) -∗ Kt ⟨c, wordOf c, Scalar.remsi (Scalar.addi (wordOf c) 1#32) 4#32, k0_pay1 (xr m c c), k0_pay2 (xr m c c) (rS m c), k0_pay3 (ir m c c), iota .tc S512x16 32 [1] iota_S512x16_d1_w32⟩)
        -∗ runs c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt) := by
  simp only [k0_part1_eq_skeleton]; unfold k0_part1_skel
  simp only [semSignalWord, semWaitWord, Prog.lift, Prog.bind_op, Prog.bind_ret, Prog.pure_eq_ret, wp_deviceId]
  unfold owe wordOf
  iintro ⟨Hin, #HR, #HL, HcB, ⟨%W, HO⟩, HaB, HtP, HtN, Hsl⟩ Hk
  simp only [show (⟨k0_dev1 c, k0_dev1_lt c⟩ : Dev nD) = prv c from Fin.ext (k0_dev1_eq c), show (⟨k0_dev2 c, k0_dev2_lt c⟩ : Dev nD) = nxt c from Fin.ext (k0_dev2_eq c)]
  iapply (Rounds.wp_signal 𝒱₀ ER (ringRd m) (c : Thread nD τ) none (dst := (prv c : Thread nD τ)) (κ := K (prv c, .inl ()))
      (d := true) (by rw [duties_bar]; exact Finset.mem_univ _) ((amount_bar m (prv c) true).trans (by decide)) () (O₁ c) rfl)
    $$ [HO HtP Hsl]
  · isplitr; · iapply (inv_at m K (prv c, .inl ())); iexact HR
    isplitl [HO]; · iexact HO
    isplitl [HtP]; · iexact HtP
    isplitl [Hsl]; · rw [payload_bar_true]; unfold barPay; rw [nxt_prv]; iexact Hsl
    iapply (reached_at m K (prv c, .inl ())); iexact HR
  iintro HO
  unfold O₁
  iapply (Rounds.wp_signal 𝒱₀ ER (ringRd m) (c : Thread nD τ) none (dst := (nxt c : Thread nD τ)) (κ := K (nxt c, .inl ()))
      (d := false) (by rw [duties_bar]; exact Finset.mem_univ _) ((amount_bar m (nxt c) false).trans (by decide)) () (orem c 6) rfl)
    $$ [HO HtN]
  · isplitr; · iapply (inv_at m K (nxt c, .inl ())); iexact HR
    isplitl [HO]; · iexact HO
    isplitl [HtN]; · iexact HtN
    isplitr; · rw [payload_bar_false]; iempintro
    iapply (reached_at m K (nxt c, .inl ())); iexact HR
  iintro HO
  iapply (Rounds.wp_wait_rest_token 𝒱₀ ER (ringRd m) (c : Thread nD τ) none (κ := K (c, .inl ()))
      (wpE_semWait_eq 𝒱₀ (c : Thread nD τ) none Set.univ) (Set.mem_univ _) () (O := orem c 6) (W := W) (R := 0) (m := 0) (T := ∅)
      (by rw [expect_bar]; decide)) $$ [HcB HO HaB]
  · isplitr; · iapply (inv_at m K (c, .inl ())); iexact HR
    isplitl [HcB]; · iexact HcB
    isplitl [HO]; · iexact HO
    isplitr; · iapply (mayWait_bar c); iexact HL
    iexact HaB
  iintro ⟨HO, HaB, -, Hpay⟩
  ihave Hp := (Entails.of_eq (rest_bar m c)) $$ Hpay
  unfold barPay
  icases Hp with ⟨-, Hsl⟩
  imod (Rounds.cell_close ER (ringRd m) (Set.mem_univ (K (c, .inl ()))) (fun h => h) (R := 0 + 1) (duties_later m (barCell c))) $$ [HaB] with Hz
  · isplitr; · iapply (inv_at m K (c, .inl ())); iexact HR
    iexact HaB
  iapply (ld_x m c c (k0_off1_eq c)) $$ Hin; iintro Hin
  iapply (ld_r m c) $$ Hin; iintro Hin
  iapply (ld_i m c c (k0_off2_eq c)) $$ Hin; iintro Hin
  iapply (run_ret c _)
  iapply Hk

  isplitl [Hin]; · iexact Hin
  isplitl [HO]; · iexists _; iexact HO
  isplitl [Hz]; · iexact Hz
  iexact Hsl

set_option maxHeartbeats 1600000 in
/-- Two of its four experts. -/
theorem part2 (c : Dev nD) (v2 : BitVec 32) (v16 : FVec F S512x512 .f32) (v28 : FVec F S512x16 .f32) (v31 : IVec S512x1 32) (v32 : IVec S512x16 32) {Kt : _ → sProp 𝕄} :
    iprop(inp m c)
      ⊢ iprop(((inp m c) -∗ Kt ⟨k0_pay4 v28 v31 v32, k0_pay5 v2 v16 v28 v31 v32 (ew m c 0) (ew m c 1), k0_pay6 v2 v16 v28 v31 v32⟩)
        -∗ runs c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v16 v28 v31 v32) Kt) := by
  simp only [k0_part2_eq_skeleton]; unfold k0_part2_skel
  simp only [semSignalWord, semWaitWord, Prog.lift, Prog.bind_op, Prog.bind_ret, Prog.pure_eq_ret, wp_deviceId]
  iintro Hin Hk
  iapply (ld_e m c 0 rfl) $$ Hin; iintro Hin
  iapply (ld_e m c 1 rfl) $$ Hin; iintro Hin
  iapply (run_ret c _)
  iapply Hk
  iexact Hin

set_option maxHeartbeats 1600000 in
/-- The other two; the first running sum goes into the first slot and off to the next device. -/
theorem part3 (c : Dev nD) (v2 v7 : BitVec 32) (v16 : FVec F S512x512 .f32) (v31 : IVec S512x1 32) (v39 : FVec F S512x1 .f32) (v66 : FVec F S512x1024 .f32) (v75 : FVec F S512x512 .f32)
    (hv : k0_pay7 v2 v16 v31 v39 v66 v75 (ew m c 2) (ew m c 3) = val m c 0) {Kt : _ → sProp 𝕄} :
    iprop(inp m c ∗ records m K ∗ anySlot (F := F) c b0 ∗ anySlot (F := F) (nxt c) b1 ∗ owe c (orem c 6) ∗ dutyTok ER (sendCell c 0) 0 false ∗ dutyTok ER (recvCell (nxt c) 0) 0 false)
      ⊢ iprop(((inp m c ∗ cred (tallyAt (sendCell c 0) () N) ∗ owe c (orem c 5)) -∗ Kt (Scalar.subi v2 0#32))
        -∗ runs c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v7 v16 v31 v39 v66 v75) Kt) := by
  simp only [k0_part3_eq_skeleton]; unfold k0_part3_skel
  simp only [semSignalWord, semWaitWord, Prog.lift, Prog.bind_op, Prog.bind_ret, Prog.pure_eq_ret, wp_deviceId]
  iintro ⟨Hin, #HR, Hb, Hd, HO, Ht1, Ht2⟩ Hk
  iapply (ld_e m c 2 rfl) $$ Hin; iintro Hin
  iapply (ld_e m c 3 rfl) $$ Hin; iintro Hin

  iapply (ld_any c b0) $$ Hb; iintro %_ Hb
  iapply (st_any c b0) $$ Hb; iintro Hb
  rw [hv]
  iapply (do_send m K c _ (Fin.ext (k0_dev3_eq c)) 0) $$ [Hb Hd HO Ht1 Ht2]
  · isplitr; · iexact HR
    isplitl [Hb]; · iexact Hb
    isplitl [Hd]; · iexact Hd
    isplitl [HO]; · iexact HO
    isplitl [Ht1] <;> iassumption
  iintro ⟨Hc, HO⟩
  iapply (run_ret c _)
  iapply Hk
  isplitl [Hin]; · iexact Hin
  isplitl [Hc]; · iexact Hc
  iexact HO

set_option maxHeartbeats 1600000 in
/-- The operands of the chunk one place back, and one expert. -/
theorem part4 (c : Dev nD) (v2 v108 : BitVec 32) {Kt : _ → sProp 𝕄} :
    iprop(inp m c)
      ⊢ iprop(((inp m c) -∗ Kt ⟨k0_pay8 (xr m c (back c 1)), k0_pay9 (ir m c (back c 1)), k0_pay10 (xr m c (back c 1)) (rS m c) (ir m c (back c 1)), k0_pay11, k0_pay12 v2 (xr m c (back c 1)) (rS m c) (ir m c (back c 1)), k0_pay13 (ew m c 0)⟩)
        -∗ runs c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v108) Kt) := by
  simp only [k0_part4_eq_skeleton]; unfold k0_part4_skel
  simp only [semSignalWord, semWaitWord, Prog.lift, Prog.bind_op, Prog.bind_ret, Prog.pure_eq_ret, wp_deviceId]
  iintro Hin Hk
  iapply (ld_x m c (back c 1) (k0_off3_eq c 0)) $$ Hin; iintro Hin
  iapply (ld_r m c) $$ Hin; iintro Hin
  iapply (ld_i m c (back c 1) (k0_off4_eq c 0)) $$ Hin; iintro Hin
  iapply (ld_e m c 0 rfl) $$ Hin; iintro Hin
  iapply (run_ret c _)
  iapply Hk
  iexact Hin

set_option maxHeartbeats 1600000 in
/-- Three experts. -/
theorem part5 (c : Dev nD) (v2 : BitVec 32) (v115 : FVec F S512x512 .f32) (v130 : IVec S512x1 32) (v138 : FVec F S512x1 .f32) (v139 : FVec F S512x1024 .f32) (v148 : FVec F S512x512 .f32) (v150 : FVec F S512x1024 .f32) {Kt : _ → sProp 𝕄} :
    iprop(inp m c)
      ⊢ iprop(((inp m c) -∗ Kt (k0_pay14 v2 v115 v130 v138 v139 v148 v150 (ew m c 1) (ew m c 2) (ew m c 3)))
        -∗ runs c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v115 v130 v138 v139 v148 v150) Kt) := by
  simp only [k0_part5_eq_skeleton]; unfold k0_part5_skel
  simp only [semSignalWord, semWaitWord, Prog.lift, Prog.bind_op, Prog.bind_ret, Prog.pure_eq_ret, wp_deviceId]
  iintro Hin Hk
  iapply (ld_e m c 1 rfl) $$ Hin; iintro Hin
  iapply (ld_e m c 2 rfl) $$ Hin; iintro Hin
  iapply (ld_e m c 3 rfl) $$ Hin; iintro Hin
  iapply (run_ret c _)
  iapply Hk
  iexact Hin

/-- A slot rewritten through the buffer it is cut from. -/
theorem st_has {sh sh' : Shape} {e : EltTy} (c : Dev nD) (M : Memref sig .tc .vmem sh e) (r : Rect sh) (hr : ∀ a, r.stride a = 1) (sq : r.shape.Squeezes sh') (hc : r.shape.ShapeCasts sh')
    {X : sh'.Idx → Elt F e} {Y : r.shape.Idx → Elt F e}
    {hx hm} {α : Type} {Q : α → sProp 𝕄} {k : PUnit → Prog (TpuEff nD τ sig (Elt F) Λ₀ .tc) α} :
    has c ((M.slice r hr).squeeze sh' sq) fullShare X
      ⊢ iprop((has c ((M.slice r hr).squeeze sh' sq) fullShare (shapeCast sh' Y hc) -∗ runs c (k ⟨⟩) Q)
        -∗ runs c (.op (.store M r Y Finset.univ hx hm) k) Q) := by
  unfold has owns
  iintro ⟨%f, %hf, H⟩ Hk
  iapply (st_slot c M r hr sq hc f Y) $$ H
  unfold has owns
  iexact Hk

set_option maxHeartbeats 1600000 in
/-- The part for the chunk one place back, added onto the sum that arrived. -/
theorem part6 (c : Dev nD) (v7 : BitVec 32) (v191 : FVec F S512x1024 .f32)
    (hv : k0_pay15 v191 = partAt m c (back c 1)) (X : FVec F S512x1024 .f32) {Kt : _ → sProp 𝕄} :
    iprop(records m K ∗ levAts L lv ∗ held c cc0_scratch2 X ∗ cred (tallyAt (recvCell c 0) () N) ∗ owe c (orem c 5) ∗ atPos ER (recvCell c 0) 0 ∅ 0)
      ⊢ iprop(((held c cc0_scratch2 (partAt m c (back c 1)) ∗ owe c (orem c 5) ∗ slot c b1 fullShare (val m c 1) ∗ semVal (recvCell c 0) 0) -∗ Kt ⟨⟩)
        -∗ runs c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v7 v191) Kt) := by
  simp only [k0_part6_eq_skeleton]; unfold k0_part6_skel
  simp only [semSignalWord, semWaitWord, Prog.lift, Prog.bind_op, Prog.bind_ret, Prog.pure_eq_ret, wp_deviceId]
  iintro ⟨#HR, #HL, HA, Hc, HO, Ha⟩ Hk

  iapply (ld_a c X) $$ HA; iintro HA
  iapply (st_a c X) $$ HA; iintro HA
  rw [hv]
  iapply (wait_recv m K c 0) $$ [Hc HO Ha]
  · isplitr; · iexact HR
    isplitr; · iexact HL
    isplitl [Hc]; · iexact Hc
    isplitl [HO]; · iexact HO
    iexact Ha
  iintro ⟨HO, Hb, Hz⟩
  iapply (ld_slot c (Memref.whole cc0_scratch0) (Rect.unit (s := S4x512x1024) ![1, 0, 0] S1x512x1024.size inb_S4x512x1024_S1x512x1024_1_0_0) (fun _ => rfl) squeezes_S1x512x1024_S512x1024 shapeCasts_S1x512x1024_S512x1024) $$ Hb; iintro %v %hw Hb
  iapply (ld_a c _) $$ HA; iintro HA
  iapply (ld_slot c (Memref.whole cc0_scratch0) (Rect.unit (s := S4x512x1024) ![1, 0, 0] S1x512x1024.size inb_S4x512x1024_S1x512x1024_1_0_0) (fun _ => rfl) squeezes_S1x512x1024_S512x1024 shapeCasts_S1x512x1024_S512x1024) $$ Hb; iintro %v' %hw' Hb
  iapply (st_has c (Memref.whole cc0_scratch0) (Rect.unit (s := S4x512x1024) ![1, 0, 0] S1x512x1024.size inb_S4x512x1024_S1x512x1024_1_0_0) (fun _ => rfl) squeezes_S1x512x1024_S512x1024 shapeCasts_S1x512x1024_S512x1024) $$ Hb; iintro Hb
  rw [show shapeCast S512x1024 (k0_pay16 v (partAt m c (back c 1))) shapeCasts_S1x512x1024_S512x1024 = val m c 1 from
    (shapeCast_shapeCast _ _ _).trans (congrArg (fun z => addf z (partAt m c (back c 1))) hw)]
  iapply (run_ret c _)
  iapply Hk
  isplitl [HA]; · iexact HA
  isplitl [HO]; · iexact HO
  isplitl [Hb] <;> iassumption

set_option maxHeartbeats 1600000 in
/-- The sum goes on; the operands of the chunk two places back. -/
theorem part7 (c : Dev nD) (v2 : BitVec 32) {Kt : _ → sProp 𝕄} :
    iprop(inp m c ∗ records m K ∗ slot c b1 fullShare (val m c 1) ∗ anySlot (F := F) (nxt c) b2 ∗ owe c (orem c 5) ∗ dutyTok ER (sendCell c 1) 0 false ∗ dutyTok ER (recvCell (nxt c) 1) 0 false)
      ⊢ iprop(((inp m c ∗ cred (tallyAt (sendCell c 1) () N) ∗ owe c (orem c 4)) -∗ Kt ⟨k0_pay17 (xr m c (back c 2)), k0_pay18 (ir m c (back c 2)), k0_pay19 (xr m c (back c 2)) (rS m c) (ir m c (back c 2)), k0_pay20, k0_pay21 v2 (xr m c (back c 2)) (rS m c) (ir m c (back c 2))⟩)
        -∗ runs c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2) Kt) := by
  simp only [k0_part7_eq_skeleton]; unfold k0_part7_skel
  simp only [semSignalWord, semWaitWord, Prog.lift, Prog.bind_op, Prog.bind_ret, Prog.pure_eq_ret, wp_deviceId]
  iintro ⟨Hin, #HR, Hb, Hd, HO, Ht1, Ht2⟩ Hk
  iapply (do_send m K c _ (Fin.ext (k0_dev4_eq c)) 1) $$ [Hb Hd HO Ht1 Ht2]
  · isplitr; · iexact HR
    isplitl [Hb]; · iexact Hb
    isplitl [Hd]; · iexact Hd
    isplitl [HO]; · iexact HO
    isplitl [Ht1] <;> iassumption
  iintro ⟨Hc, HO⟩
  iapply (ld_x m c (back c 2) (k0_off3_eq c 1)) $$ Hin; iintro Hin
  iapply (ld_r m c) $$ Hin; iintro Hin
  iapply (ld_i m c (back c 2) (k0_off4_eq c 1)) $$ Hin; iintro Hin
  iapply (run_ret c _)
  iapply Hk
  isplitl [Hin]; · iexact Hin
  isplitl [Hc]; · iexact Hc
  iexact HO

set_option maxHeartbeats 1600000 in
/-- Its experts. -/
theorem part8 (c : Dev nD) (v2 : BitVec 32) (v227 : FVec F S512x512 .f32) (v242 : IVec S512x1 32) (v250 : FVec F S512x1 .f32) (v251 : FVec F S512x1024 .f32) (v260 : FVec F S512x512 .f32) {Kt : _ → sProp 𝕄} :
    iprop(inp m c)
      ⊢ iprop(((inp m c) -∗ Kt ⟨k0_pay22 v2 v227 v242 v250 v251 v260 (ew m c 0) (ew m c 1) (ew m c 2), k0_pay23 v2 v227 v242 v250, ew m c 3⟩)
        -∗ runs c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v227 v242 v250 v251 v260) Kt) := by
  simp only [k0_part8_eq_skeleton]; unfold k0_part8_skel
  simp only [semSignalWord, semWaitWord, Prog.lift, Prog.bind_op, Prog.bind_ret, Prog.pure_eq_ret, wp_deviceId]
  iintro Hin Hk
  iapply (ld_e m c 0 rfl) $$ Hin; iintro Hin
  iapply (ld_e m c 1 rfl) $$ Hin; iintro Hin
  iapply (ld_e m c 2 rfl) $$ Hin; iintro Hin
  iapply (ld_e m c 3 rfl) $$ Hin; iintro Hin
  iapply (run_ret c _)
  iapply Hk
  iexact Hin

set_option maxHeartbeats 1600000 in
/-- That part, added onto the sum that arrived. -/
theorem part9 (c : Dev nD) (v7 : BitVec 32) (v290 : FVec F S512x1024 .f32) (v299 : FVec F S512x512 .f32) (v300 : Vec F S1x512x1024 .f32)
    (hv : k0_pay24 v290 v299 v300 = partAt m c (back c 2)) (X : FVec F S512x1024 .f32) {Kt : _ → sProp 𝕄} :
    iprop(records m K ∗ levAts L lv ∗ held c cc0_scratch2 X ∗ cred (tallyAt (recvCell c 1) () N) ∗ owe c (orem c 4) ∗ atPos ER (recvCell c 1) 0 ∅ 0)
      ⊢ iprop(((held c cc0_scratch2 (partAt m c (back c 2)) ∗ owe c (orem c 4) ∗ slot c b2 fullShare (val m c 2) ∗ semVal (recvCell c 1) 0) -∗ Kt ⟨⟩)
        -∗ runs c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v7 v290 v299 v300) Kt) := by
  simp only [k0_part9_eq_skeleton]; unfold k0_part9_skel
  simp only [semSignalWord, semWaitWord, Prog.lift, Prog.bind_op, Prog.bind_ret, Prog.pure_eq_ret, wp_deviceId]
  iintro ⟨#HR, #HL, HA, Hc, HO, Ha⟩ Hk

  iapply (ld_a c X) $$ HA; iintro HA
  iapply (st_a c X) $$ HA; iintro HA
  rw [hv]
  iapply (wait_recv m K c 1) $$ [Hc HO Ha]
  · isplitr; · iexact HR
    isplitr; · iexact HL
    isplitl [Hc]; · iexact Hc
    isplitl [HO]; · iexact HO
    iexact Ha
  iintro ⟨HO, Hb, Hz⟩
  iapply (ld_slot c (Memref.whole cc0_scratch0) (Rect.unit (s := S4x512x1024) ![2, 0, 0] S1x512x1024.size inb_S4x512x1024_S1x512x1024_2_0_0) (fun _ => rfl) squeezes_S1x512x1024_S512x1024 shapeCasts_S1x512x1024_S512x1024) $$ Hb; iintro %v %hw Hb
  iapply (ld_a c _) $$ HA; iintro HA
  iapply (ld_slot c (Memref.whole cc0_scratch0) (Rect.unit (s := S4x512x1024) ![2, 0, 0] S1x512x1024.size inb_S4x512x1024_S1x512x1024_2_0_0) (fun _ => rfl) squeezes_S1x512x1024_S512x1024 shapeCasts_S1x512x1024_S512x1024) $$ Hb; iintro %v' %hw' Hb
  iapply (st_has c (Memref.whole cc0_scratch0) (Rect.unit (s := S4x512x1024) ![2, 0, 0] S1x512x1024.size inb_S4x512x1024_S1x512x1024_2_0_0) (fun _ => rfl) squeezes_S1x512x1024_S512x1024 shapeCasts_S1x512x1024_S512x1024) $$ Hb; iintro Hb
  rw [show shapeCast S512x1024 (k0_pay25 v (partAt m c (back c 2))) shapeCasts_S1x512x1024_S512x1024 = val m c 2 from
    (shapeCast_shapeCast _ _ _).trans (congrArg (fun z => addf z (partAt m c (back c 2))) hw)]
  iapply (run_ret c _)
  iapply Hk
  isplitl [HA]; · iexact HA
  isplitl [HO]; · iexact HO
  isplitl [Hb] <;> iassumption

set_option maxHeartbeats 1600000 in
/-- The sum goes on; the operands of the chunk three places back. -/
theorem part10 (c : Dev nD) (v2 : BitVec 32) {Kt : _ → sProp 𝕄} :
    iprop(inp m c ∗ records m K ∗ slot c b2 fullShare (val m c 2) ∗ anySlot (F := F) (nxt c) b3 ∗ owe c (orem c 4) ∗ dutyTok ER (sendCell c 2) 0 false ∗ dutyTok ER (recvCell (nxt c) 2) 0 false)
      ⊢ iprop(((inp m c ∗ cred (tallyAt (sendCell c 2) () N) ∗ owe c (orem c 3)) -∗ Kt ⟨k0_pay26 (xr m c (back c 3)), k0_pay27 (ir m c (back c 3)), k0_pay28 (xr m c (back c 3)) (rS m c) (ir m c (back c 3)), k0_pay29, k0_pay30 v2 (ir m c (back c 3))⟩)
        -∗ runs c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2) Kt) := by
  simp only [k0_part10_eq_skeleton]; unfold k0_part10_skel
  simp only [semSignalWord, semWaitWord, Prog.lift, Prog.bind_op, Prog.bind_ret, Prog.pure_eq_ret, wp_deviceId]
  iintro ⟨Hin, #HR, Hb, Hd, HO, Ht1, Ht2⟩ Hk
  iapply (do_send m K c _ (Fin.ext (k0_dev5_eq c)) 2) $$ [Hb Hd HO Ht1 Ht2]
  · isplitr; · iexact HR
    isplitl [Hb]; · iexact Hb
    isplitl [Hd]; · iexact Hd
    isplitl [HO]; · iexact HO
    isplitl [Ht1] <;> iassumption
  iintro ⟨Hc, HO⟩
  iapply (ld_x m c (back c 3) (k0_off3_eq c 2)) $$ Hin; iintro Hin
  iapply (ld_r m c) $$ Hin; iintro Hin
  iapply (ld_i m c (back c 3) (k0_off4_eq c 2)) $$ Hin; iintro Hin
  iapply (run_ret c _)
  iapply Hk
  isplitl [Hin]; · iexact Hin
  isplitl [Hc]; · iexact Hc
  iexact HO

set_option maxHeartbeats 1600000 in
/-- Three of its experts. -/
theorem part11 (c : Dev nD) (v2 : BitVec 32) (v339 : FVec F S512x512 .f32) (v354 : IVec S512x1 32) (v362 : FVec F S512x1 .f32) (v363 : FVec F S512x1024 .f32) (v369 : FVec F S512x1 .f32) {Kt : _ → sProp 𝕄} :
    iprop(inp m c)
      ⊢ iprop(((inp m c) -∗ Kt ⟨k0_pay31 v2 v339 v354 v362 v363 v369 (ew m c 0) (ew m c 1) (ew m c 2), k0_pay32 v2 v339 v354 v362⟩)
        -∗ runs c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v339 v354 v362 v363 v369) Kt) := by
  simp only [k0_part11_eq_skeleton]; unfold k0_part11_skel
  simp only [semSignalWord, semWaitWord, Prog.lift, Prog.bind_op, Prog.bind_ret, Prog.pure_eq_ret, wp_deviceId]
  iintro Hin Hk
  iapply (ld_e m c 0 rfl) $$ Hin; iintro Hin
  iapply (ld_e m c 1 rfl) $$ Hin; iintro Hin
  iapply (ld_e m c 2 rfl) $$ Hin; iintro Hin
  iapply (run_ret c _)
  iapply Hk
  iexact Hin

set_option maxHeartbeats 1600000 in
/-- The fourth, and that part added onto the sum that arrived: the chunk after the device's own is finished. -/
theorem part12 (c : Dev nD) (v2 v7 : BitVec 32) (v402 : FVec F S512x1024 .f32) (v411 : FVec F S512x512 .f32)
    (hv : k0_pay33 v402 v411 (ew m c 3) = partAt m c (back c 3)) (X : FVec F S512x1024 .f32) {Kt : _ → sProp 𝕄} :
    iprop(inp m c ∗ records m K ∗ levAts L lv ∗ held c cc0_scratch2 X ∗ cred (tallyAt (recvCell c 2) () N) ∗ owe c (orem c 3) ∗ atPos ER (recvCell c 2) 0 ∅ 0)
      ⊢ iprop(((inp m c ∗ held c cc0_scratch2 (partAt m c (back c 3)) ∗ owe c (orem c 3) ∗ slot c b3 fullShare (val m c 3) ∗ semVal (recvCell c 2) 0) -∗ Kt ⟨Scalar.remsi (Scalar.addi v2 1#32) 4#32, Scalar.muli v7 1#32, 0#32⟩)
        -∗ runs c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v2 v7 v402 v411) Kt) := by
  simp only [k0_part12_eq_skeleton]; unfold k0_part12_skel
  simp only [semSignalWord, semWaitWord, Prog.lift, Prog.bind_op, Prog.bind_ret, Prog.pure_eq_ret, wp_deviceId]
  iintro ⟨Hin, #HR, #HL, HA, Hc, HO, Ha⟩ Hk
  iapply (ld_e m c 3 rfl) $$ Hin; iintro Hin

  iapply (ld_a c X) $$ HA; iintro HA
  iapply (st_a c X) $$ HA; iintro HA
  rw [hv]
  iapply (wait_recv m K c 2) $$ [Hc HO Ha]
  · isplitr; · iexact HR
    isplitr; · iexact HL
    isplitl [Hc]; · iexact Hc
    isplitl [HO]; · iexact HO
    iexact Ha
  iintro ⟨HO, Hb, Hz⟩
  iapply (ld_slot c (Memref.whole cc0_scratch0) (Rect.unit (s := S4x512x1024) ![3, 0, 0] S1x512x1024.size inb_S4x512x1024_S1x512x1024_3_0_0) (fun _ => rfl) squeezes_S1x512x1024_S512x1024 shapeCasts_S1x512x1024_S512x1024) $$ Hb; iintro %v %hw Hb
  iapply (ld_a c _) $$ HA; iintro HA
  iapply (ld_slot c (Memref.whole cc0_scratch0) (Rect.unit (s := S4x512x1024) ![3, 0, 0] S1x512x1024.size inb_S4x512x1024_S1x512x1024_3_0_0) (fun _ => rfl) squeezes_S1x512x1024_S512x1024 shapeCasts_S1x512x1024_S512x1024) $$ Hb; iintro %v' %hw' Hb
  iapply (st_has c (Memref.whole cc0_scratch0) (Rect.unit (s := S4x512x1024) ![3, 0, 0] S1x512x1024.size inb_S4x512x1024_S1x512x1024_3_0_0) (fun _ => rfl) squeezes_S1x512x1024_S512x1024 shapeCasts_S1x512x1024_S512x1024) $$ Hb; iintro Hb
  rw [show shapeCast S512x1024 (k0_pay34 v (partAt m c (back c 3))) shapeCasts_S1x512x1024_S512x1024 = val m c 3 from
    (shapeCast_shapeCast _ _ _).trans (congrArg (fun z => addf z (partAt m c (back c 3))) hw)]
  iapply (run_ret c _)
  iapply Hk
  isplitl [Hin]; · iexact Hin
  isplitl [HA]; · iexact HA
  isplitl [HO]; · iexact HO
  isplitl [Hb] <;> iassumption

set_option maxHeartbeats 1600000 in
/-- The finished chunk starts round the ring, and is added to the shared expert's rows meanwhile: the transfer has half the slot. -/
theorem part13 (c : Dev nD) (v2 v435 v436 w : BitVec 32) (Y : FVec F S512x1024 .f32) {Kt : _ → sProp 𝕄} :
    iprop(inp m c ∗ records m K ∗ slot c b3 fullShare (val m c 3) ∗ anySlot (F := F) (nxt c) a0 ∗ owe c (orem c 3) ∗ dutyTok ER (sendCell c 3) 0 false ∗ dutyTok ER (recvCell (nxt c) 3) 0 false ∗ outRows c (nxt c) Y)
      ⊢ iprop(((inp m c ∗ cred (tallyAt (sendCell c 3) () N) ∗ owe c (orem c 2) ∗ slot c b3 fullShare.right (val m c 3) ∗ outRows c (nxt c) (fullAt m c (nxt c))) -∗ Kt ⟨Scalar.muli (Scalar.remsi (Scalar.addi (Scalar.subi v2 0#32) 8#32) 4#32) 512#32, k0_pay37 (xr m c (back c 0)), k0_pay38 (sS m c)⟩)
        -∗ runs c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v435 v436 w) Kt) := by
  simp only [k0_part13_eq_skeleton]; unfold k0_part13_skel
  simp only [semSignalWord, semWaitWord, Prog.lift, Prog.bind_op, Prog.bind_ret, Prog.pure_eq_ret, wp_deviceId]
  iintro ⟨Hin, #HR, Hb, Hd, HO, Ht1, Ht2, Ho⟩ Hk
  icases (owns_halves (c : Thread nD τ) b3 fullShare (val m c 3)).1 $$ Hb with ⟨Hb, Hr⟩

  iapply (do_send m K c _ (Fin.ext (k0_dev6_eq c)) 3) $$ [Hb Hd HO Ht1 Ht2]
  · isplitr; · iexact HR
    isplitl [Hb]; · iexact Hb
    isplitl [Hd]; · iexact Hd
    isplitl [HO]; · iexact HO
    isplitl [Ht1] <;> iassumption
  iintro ⟨Hc, HO⟩
  iapply (ld_x m c (nxt c) (k0_off5_eq c)) $$ Hin; iintro Hin
  iapply (ld_s m c) $$ Hin; iintro Hin
  iapply (ld_o c (nxt c) _ (k0_off6_eq c)) $$ Ho; iintro Ho
  iapply (st_o c (nxt c) _ _ (k0_off6_eq c)) $$ Ho; iintro Ho
  iapply (ld_o c (nxt c) _ (k0_off6_eq c)) $$ Ho; iintro Ho
  iapply (ld_slot c (Memref.whole cc0_scratch0) (Rect.unit (s := S4x512x1024) ![3, 0, 0] S1x512x1024.size inb_S4x512x1024_S1x512x1024_3_0_0) (fun _ => rfl) squeezes_S1x512x1024_S512x1024 shapeCasts_S1x512x1024_S512x1024) $$ Hr; iintro %v %hw Hr
  iapply (ld_o c (nxt c) _ (k0_off6_eq c)) $$ Ho; iintro Ho
  iapply (st_o c (nxt c) _ _ (k0_off6_eq c)) $$ Ho; iintro Ho
  rw [show k0_pay36 (k0_pay35 (xr m c (nxt c)) (sS m c)) v = fullAt m c (nxt c) from
    congrArg₂ (fun y z => addf y z) (shapeCast_self _ _) (hw.trans (by unfold val; rw [prv_nxt]))]
  iapply (ld_x m c (back c 0) (k0_off7_eq c 0)) $$ Hin; iintro Hin
  iapply (ld_s m c) $$ Hin; iintro Hin
  iapply (run_ret c _)
  iapply Hk
  isplitl [Hin]; · iexact Hin
  isplitl [Hc]; · iexact Hc
  isplitl [HO]; · iexact HO
  isplitl [Hr] <;> iassumption

set_option maxHeartbeats 1600000 in
/-- The chunk finished by the device before arrives, is added to the shared expert's rows and passed on. -/
theorem part14 (c : Dev nD) (v7 v466 : BitVec 32) (Y : FVec F S512x1024 .f32) {Kt : _ → sProp 𝕄} :
    iprop(records m K ∗ levAts L lv ∗ cred (tallyAt (recvCell c 3) () N) ∗ owe c (orem c 2) ∗ atPos ER (recvCell c 3) 0 ∅ 0
        ∗ anySlot (F := F) (nxt c) a1 ∗ dutyTok ER (sendCell c 4) 0 false ∗ dutyTok ER (recvCell (nxt c) 4) 0 false ∗ outRows c (back c 0) Y)
      ⊢ iprop(((cred (tallyAt (sendCell c 4) () N) ∗ owe c (orem c 1) ∗ semVal (recvCell c 3) 0 ∗ outRows c (back c 0) (fullAt m c (back c 0))) -∗ Kt ⟨⟩)
        -∗ runs c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v7 v466 (k0_pay37 (xr m c (back c 0))) (k0_pay38 (sS m c))) Kt) := by
  simp only [k0_part14_eq_skeleton]; unfold k0_part14_skel
  simp only [semSignalWord, semWaitWord, Prog.lift, Prog.bind_op, Prog.bind_ret, Prog.pure_eq_ret, wp_deviceId]
  iintro ⟨#HR, #HL, Hcr, HO, Ha, Hd, Ht1, Ht2, Ho⟩ Hk
  iapply (ld_o c (back c 0) _ (k0_off8_eq c 0)) $$ Ho; iintro Ho
  iapply (st_o c (back c 0) _ _ (k0_off8_eq c 0)) $$ Ho; iintro Ho

  iapply (wait_recv m K c 3) $$ [Hcr HO Ha]
  · isplitr; · iexact HR
    isplitr; · iexact HL
    isplitl [Hcr]; · iexact Hcr
    isplitl [HO]; · iexact HO
    iexact Ha
  iintro ⟨HO, Hb, Hz⟩
  iapply (ld_o c (back c 0) _ (k0_off8_eq c 0)) $$ Ho; iintro Ho
  iapply (ld_slot c (Memref.whole cc0_scratch1) (Rect.unit (s := S3x512x1024) ![0, 0, 0] S1x512x1024.size inb_S3x512x1024_S1x512x1024_0_0_0) (fun _ => rfl) squeezes_S1x512x1024_S512x1024 shapeCasts_S1x512x1024_S512x1024) $$ Hb; iintro %v %hw Hb
  iapply (ld_o c (back c 0) _ (k0_off8_eq c 0)) $$ Ho; iintro Ho
  iapply (st_o c (back c 0) _ _ (k0_off8_eq c 0)) $$ Ho; iintro Ho
  rw [show k0_pay40 (k0_pay39 (k0_pay37 (xr m c (back c 0))) (k0_pay38 (sS m c))) v = fullAt m c (back c 0) from
    congrArg₂ (fun y z => addf y z) (shapeCast_self _ _) (hw.trans (by unfold val; rw [back_zero]))]

  iapply (do_send m K c _ (Fin.ext (k0_dev7_eq c)) 4) $$ [Hb Hd HO Ht1 Ht2]
  · isplitr; · iexact HR
    isplitl [Hb]; · iexact Hb
    isplitl [Hd]; · iexact Hd
    isplitl [HO]; · iexact HO
    isplitl [Ht1] <;> iassumption
  iintro ⟨Hc, HO⟩
  iapply (run_ret c _)
  iapply Hk
  isplitl [Hc]; · iexact Hc
  isplitl [HO]; · iexact HO
  isplitl [Hz] <;> iassumption

set_option maxHeartbeats 1600000 in
/-- The one finished two places back arrives and is added. -/
theorem part15 (c : Dev nD) (v2 v7 : BitVec 32) (Y : FVec F S512x1024 .f32) {Kt : _ → sProp 𝕄} :
    iprop(inp m c ∗ records m K ∗ levAts L lv ∗ cred (tallyAt (recvCell c 4) () N) ∗ owe c (orem c 1) ∗ atPos ER (recvCell c 4) 0 ∅ 0 ∗ outRows c (back c 1) Y)
      ⊢ iprop(((inp m c ∗ owe c (orem c 1) ∗ slot c a1 fullShare (val m c 5) ∗ semVal (recvCell c 4) 0 ∗ outRows c (back c 1) (fullAt m c (back c 1))) -∗ Kt 1#32)
        -∗ runs c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v7) Kt) := by
  simp only [k0_part15_eq_skeleton]; unfold k0_part15_skel
  simp only [semSignalWord, semWaitWord, Prog.lift, Prog.bind_op, Prog.bind_ret, Prog.pure_eq_ret, wp_deviceId]
  iintro ⟨Hin, #HR, #HL, Hcr, HO, Ha, Ho⟩ Hk
  iapply (ld_x m c (back c 1) (k0_off7_eq c 1)) $$ Hin; iintro Hin
  iapply (ld_s m c) $$ Hin; iintro Hin
  iapply (ld_o c (back c 1) _ (k0_off8_eq c 1)) $$ Ho; iintro Ho
  iapply (st_o c (back c 1) _ _ (k0_off8_eq c 1)) $$ Ho; iintro Ho

  iapply (wait_recv m K c 4) $$ [Hcr HO Ha]
  · isplitr; · iexact HR
    isplitr; · iexact HL
    isplitl [Hcr]; · iexact Hcr
    isplitl [HO]; · iexact HO
    iexact Ha
  iintro ⟨HO, Hb, Hz⟩
  iapply (ld_o c (back c 1) _ (k0_off8_eq c 1)) $$ Ho; iintro Ho
  iapply (ld_slot c (Memref.whole cc0_scratch1) (Rect.unit (s := S3x512x1024) ![1, 0, 0] S1x512x1024.size inb_S3x512x1024_S1x512x1024_1_0_0) (fun _ => rfl) squeezes_S1x512x1024_S512x1024 shapeCasts_S1x512x1024_S512x1024) $$ Hb; iintro %v %hw Hb
  iapply (ld_o c (back c 1) _ (k0_off8_eq c 1)) $$ Ho; iintro Ho
  iapply (st_o c (back c 1) _ _ (k0_off8_eq c 1)) $$ Ho; iintro Ho
  rw [show k0_pay42 (k0_pay41 (xr m c (back c 1)) (sS m c)) v = fullAt m c (back c 1) from
    congrArg₂ (fun y z => addf y z) (shapeCast_self _ _) (hw.trans (by unfold val; rw [back_one]))]
  iapply (run_ret c _)
  iapply Hk
  isplitl [Hin]; · iexact Hin
  isplitl [HO]; · iexact HO
  isplitl [Hb]; · iexact Hb
  isplitl [Hz] <;> iassumption

set_option maxHeartbeats 1600000 in
/-- It is passed on; the last one arrives. -/
theorem part16 (c : Dev nD) (v2 v7 w : BitVec 32) (Y : FVec F S512x1024 .f32) {Kt : _ → sProp 𝕄} :
    iprop(inp m c ∗ records m K ∗ levAts L lv ∗ slot c a1 fullShare (val m c 5) ∗ anySlot (F := F) (nxt c) a2 ∗ owe c (orem c 1) ∗ dutyTok ER (sendCell c 5) 0 false ∗ dutyTok ER (recvCell (nxt c) 5) 0 false
        ∗ cred (tallyAt (recvCell c 5) () N) ∗ atPos ER (recvCell c 5) 0 ∅ 0 ∗ outRows c (back c 2) Y)
      ⊢ iprop(((inp m c ∗ cred (tallyAt (sendCell c 5) () N) ∗ owe c 0 ∗ slot c a2 fullShare (val m (prv c) 5) ∗ semVal (recvCell c 5) 0 ∗ outRows c (back c 2) (sharedAt m c (back c 2))) -∗ Kt ⟨Scalar.muli (Scalar.remsi (Scalar.addi (Scalar.subi v2 2#32) 8#32) 4#32) 512#32, sharedAt m c (back c 2)⟩)
        -∗ runs c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v2 v7 w) Kt) := by
  simp only [k0_part16_eq_skeleton]; unfold k0_part16_skel
  simp only [semSignalWord, semWaitWord, Prog.lift, Prog.bind_op, Prog.bind_ret, Prog.pure_eq_ret, wp_deviceId]
  iintro ⟨Hin, #HR, #HL, Hb, Hd, HO, Ht1, Ht2, Hcr, Ha, Ho⟩ Hk

  iapply (do_send m K c _ (Fin.ext (k0_dev8_eq c)) 5) $$ [Hb Hd HO Ht1 Ht2]
  · isplitr; · iexact HR
    isplitl [Hb]; · iexact Hb
    isplitl [Hd]; · iexact Hd
    isplitl [HO]; · iexact HO
    isplitl [Ht1] <;> iassumption
  iintro ⟨Hc, HO⟩
  iapply (ld_x m c (back c 2) (k0_off7_eq c 2)) $$ Hin; iintro Hin
  iapply (ld_s m c) $$ Hin; iintro Hin
  iapply (ld_o c (back c 2) _ (k0_off8_eq c 2)) $$ Ho; iintro Ho
  iapply (st_o c (back c 2) _ _ (k0_off8_eq c 2)) $$ Ho; iintro Ho

  iapply (wait_recv m K c 5) $$ [Hcr HO Ha]
  · isplitr; · iexact HR
    isplitr; · iexact HL
    isplitl [Hcr]; · iexact Hcr
    isplitl [HO]; · iexact HO
    iexact Ha
  iintro ⟨HO, Hb, Hz⟩
  iapply (ld_o c (back c 2) _ (k0_off8_eq c 2)) $$ Ho; iintro Ho
  rw [show k0_pay43 (xr m c (back c 2)) (sS m c) = sharedAt m c (back c 2) from rfl]
  iapply (run_ret c _)
  iapply Hk
  isplitl [Hin]; · iexact Hin
  isplitl [Hc]; · iexact Hc
  isplitl [HO]; · iexact HO
  isplitl [Hb]; · iexact Hb
  isplitl [Hz] <;> iassumption

set_option maxHeartbeats 1600000 in
/-- It is added; the first three departures are waited for. -/
theorem part17 (c : Dev nD) (v542 : BitVec 32) {Kt : _ → sProp 𝕄} :
    iprop(records m K ∗ slot c a2 fullShare (val m (prv c) 5) ∗ owe c 0 ∗ outRows c (back c 2) (sharedAt m c (back c 2))
        ∗ cred (tallyAt (sendCell c 0) () N) ∗ atPos ER (sendCell c 0) 0 ∅ 0 ∗ cred (tallyAt (sendCell c 1) () N) ∗ atPos ER (sendCell c 1) 0 ∅ 0 ∗ cred (tallyAt (sendCell c 2) () N) ∗ atPos ER (sendCell c 2) 0 ∅ 0)
      ⊢ iprop(((slot c a2 fullShare (val m (prv c) 5) ∗ owe c 0 ∗ outRows c (back c 2) (fullAt m c (back c 2))
        ∗ slot c b0 fullShare (val m c 0) ∗ semVal (sendCell c 0) 0 ∗ slot c b1 fullShare (val m c 1) ∗ semVal (sendCell c 1) 0 ∗ slot c b2 fullShare (val m c 2) ∗ semVal (sendCell c 2) 0) -∗ Kt ⟨⟩)
        -∗ runs c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v542 (sharedAt m c (back c 2))) Kt) := by
  simp only [k0_part17_eq_skeleton]; unfold k0_part17_skel
  simp only [semSignalWord, semWaitWord, Prog.lift, Prog.bind_op, Prog.bind_ret, Prog.pure_eq_ret, wp_deviceId]
  iintro ⟨#HR, Hb, HO, Ho, Hc0, Ha0, Hc1, Ha1, Hc2, Ha2⟩ Hk
  iapply (ld_slot c (Memref.whole cc0_scratch1) (Rect.unit (s := S3x512x1024) ![2, 0, 0] S1x512x1024.size inb_S3x512x1024_S1x512x1024_2_0_0) (fun _ => rfl) squeezes_S1x512x1024_S512x1024 shapeCasts_S1x512x1024_S512x1024) $$ Hb; iintro %v %hw Hb
  iapply (ld_o c (back c 2) _ (k0_off8_eq c 2)) $$ Ho; iintro Ho
  iapply (st_o c (back c 2) _ _ (k0_off8_eq c 2)) $$ Ho; iintro Ho
  rw [show k0_pay44 (sharedAt m c (back c 2)) v = fullAt m c (back c 2) from
    congrArg₂ (fun y z => addf y z) (shapeCast_self _ _) (hw.trans (by unfold val; rw [back_two]))]

  iapply (wait_send m K c 0) $$ [Hc0 HO Ha0]
  · isplitr; · iexact HR
    isplitl [Hc0]; · iexact Hc0
    isplitl [HO]; · iexact HO
    iexact Ha0
  iintro ⟨HO, Hb0, Hz0⟩

  iapply (wait_send m K c 1) $$ [Hc1 HO Ha1]
  · isplitr; · iexact HR
    isplitl [Hc1]; · iexact Hc1
    isplitl [HO]; · iexact HO
    iexact Ha1
  iintro ⟨HO, Hb1, Hz1⟩

  iapply (wait_send m K c 2) $$ [Hc2 HO Ha2]
  · isplitr; · iexact HR
    isplitl [Hc2]; · iexact Hc2
    isplitl [HO]; · iexact HO
    iexact Ha2
  iintro ⟨HO, Hb2, Hz2⟩
  iapply (run_ret c _)
  iapply Hk
  isplitl [Hb]; · iexact Hb
  isplitl [HO]; · iexact HO
  isplitl [Ho]; · iexact Ho
  isplitl [Hb0]; · iexact Hb0
  isplitl [Hz0]; · iexact Hz0
  isplitl [Hb1]; · iexact Hb1
  isplitl [Hz1]; · iexact Hz1
  isplitl [Hb2]; · iexact Hb2
  iexact Hz2

end Cert.MoeRing

end
-- ==== Proof.Body.lean ====
/-
# The whole body

The buffers are cut into the slots and chunks the parts work on, the parts run one after another, and the pieces are put
back together. Last, the pipeline's obligation for the one grid point.
-/
module

public import proofs.«01_k».proof.Proof.Parts

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- One program, then another. -/
theorem run_bind (c : Dev nD) {α β : Type} {Q : β → sProp 𝕄} (p : Prog (TpuEff nD τ sig (Elt F) Λ₀ .tc) α)
    (f : α → Prog (TpuEff nD τ sig (Elt F) Λ₀ .tc) β) : runs c p (fun a => runs c (f a) Q) ⊢ runs c (p >>= f) Q := by
  unfold runs
  rw [wp_bind]

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## Buffers in pieces -/

theorem slot_any (c : Dev nD) (M : Memref sig .tc .vmem S512x1024 .f32) (X : FVec F S512x1024 .f32) : slot c M fullShare X ⊢ anySlot (F := F) c M := by
  unfold slot owns anySlot
  iintro ⟨%f, -, H⟩
  iexists f; iexact H

abbrev bS (k : Fin 4) : Memref sig .tc .vmem S512x1024 .f32 :=
  ((Memref.whole cc0_scratch0).slice (rectE k) (fun _ => rfl)).squeeze S512x1024 squeezes_S1x512x1024_S512x1024
theorem set_bS (k : Fin 4) : (bS k).view.set = (rectE k).set :=
  (View.set_reshape ((Memref.whole cc0_scratch0 : Memref sig .tc .vmem S4x512x1024 .f32).access (rectE k)) _).trans (View.set_slice_whole cc0_scratch0 (rectE k))
theorem any_bS (c : Dev nD) (k : Fin 4) :
    anySlot (F := F) c (bS k) = iprop(∃ f : Buf (Elt F) ((c : Thread nD τ).loc cc0_scratch0), ((c : Thread nD τ).loc cc0_scratch0) ↦[(rectE k).set]{fullShare} f) := by
  unfold anySlot
  rw [set_bS]
theorem rectE_disjoint : ∀ k k' : Fin 4, k ≠ k' → Disjoint (rectE k).set (rectE k').set :=
  Ring.lead_disjoint (s := S4x512x1024) (0 : Fin 3) 1 (fun k : Fin 4 => ![k.val, 0, 0]) S1x512x1024.size rectE_inb (fun b => (Nat.one_mul _).symm) rfl
theorem rectE_cover : Finset.univ.biUnion (fun k : Fin 4 => (rectE k).set) = Finset.univ :=
  Ring.lead_cover (s := S4x512x1024) (0 : Fin 3) 1 (fun k : Fin 4 => ![k.val, 0, 0]) S1x512x1024.size rectE_inb (fun b => (Nat.one_mul _).symm)
    (fun b a h => by fin_cases a <;> first | rfl | exact absurd rfl h) rfl (fun a h => by fin_cases a <;> first | rfl | exact absurd rfl h) rfl

theorem split_b (c : Dev nD) (f : Buf (Elt F) ((c : Thread nD τ).loc cc0_scratch0)) :
    (((c : Thread nD τ).loc cc0_scratch0) ↦{fullShare} f : sProp 𝕄) ⊢ iprop(anySlot c b0 ∗ anySlot c b1 ∗ anySlot c b2 ∗ anySlot c b3) := by
  rw [Ring.pointsTo_blocks (fun k : Fin 4 => (rectE k).set) rectE_disjoint rectE_cover f]
  refine (bigSep_mono (Ψ := fun k => anySlot (F := F) c (bS k)) fun k _ => ?_).trans (Entails.of_eq (bigSep_fin4 _))
  rw [any_bS]
  show (((c : Thread nD τ).loc cc0_scratch0) ↦[(rectE k).set]{fullShare} f : sProp 𝕄) ⊢ iprop(∃ f, ((c : Thread nD τ).loc cc0_scratch0) ↦[(rectE k).set]{fullShare} f)
  iintro H; iexists f; iexact H
theorem join_b (c : Dev nD) (f₀ : Buf (Elt F) ((c : Thread nD τ).loc cc0_scratch0)) : iprop(anySlot (F := F) c b0 ∗ anySlot (F := F) c b1 ∗ anySlot (F := F) c b2 ∗ anySlot (F := F) c b3)
    ⊢ (iprop(∃ f : Buf (Elt F) ((c : Thread nD τ).loc cc0_scratch0), ((c : Thread nD τ).loc cc0_scratch0) ↦{fullShare} f) : sProp 𝕄) := by
  refine (Entails.of_eq (bigSep_fin4 (fun k => anySlot (F := F) c (bS k))).symm).trans ?_
  rw [bigSep_congr fun k _ => any_bS (F := F) c k]
  exact Ring.pointsTo_blocks_join_exists (ℓ := (c : Thread nD τ).loc cc0_scratch0) (fun k : Fin 4 => (rectE k).set) rectE_disjoint rectE_cover f₀

theorem rectG_inb (k : Fin 3) : ∀ i, (![k.val, 0, 0] : Fin 3 → Nat) i + S1x512x1024.size i ≤ S3x512x1024.size i := by revert k; decide
abbrev rectG (k : Fin 3) : Rect S3x512x1024 := Rect.unit (s := S3x512x1024) ![k.val, 0, 0] S1x512x1024.size (rectG_inb k)
abbrev aS (k : Fin 3) : Memref sig .tc .vmem S512x1024 .f32 :=
  ((Memref.whole cc0_scratch1).slice (rectG k) (fun _ => rfl)).squeeze S512x1024 squeezes_S1x512x1024_S512x1024
theorem set_aS (k : Fin 3) : (aS k).view.set = (rectG k).set :=
  (View.set_reshape ((Memref.whole cc0_scratch1 : Memref sig .tc .vmem S3x512x1024 .f32).access (rectG k)) _).trans (View.set_slice_whole cc0_scratch1 (rectG k))
theorem any_aS (c : Dev nD) (k : Fin 3) :
    anySlot (F := F) c (aS k) = iprop(∃ f : Buf (Elt F) ((c : Thread nD τ).loc cc0_scratch1), ((c : Thread nD τ).loc cc0_scratch1) ↦[(rectG k).set]{fullShare} f) := by
  unfold anySlot
  rw [set_aS]
theorem rectG_disjoint : ∀ k k' : Fin 3, k ≠ k' → Disjoint (rectG k).set (rectG k').set :=
  Ring.lead_disjoint (s := S3x512x1024) (0 : Fin 3) 1 (fun k : Fin 3 => ![k.val, 0, 0]) S1x512x1024.size rectG_inb (fun b => (Nat.one_mul _).symm) rfl
theorem rectG_cover : Finset.univ.biUnion (fun k : Fin 3 => (rectG k).set) = Finset.univ :=
  Ring.lead_cover (s := S3x512x1024) (0 : Fin 3) 1 (fun k : Fin 3 => ![k.val, 0, 0]) S1x512x1024.size rectG_inb (fun b => (Nat.one_mul _).symm)
    (fun b a h => by fin_cases a <;> first | rfl | exact absurd rfl h) rfl (fun a h => by fin_cases a <;> first | rfl | exact absurd rfl h) rfl

theorem split_a (c : Dev nD) (f : Buf (Elt F) ((c : Thread nD τ).loc cc0_scratch1)) :
    (((c : Thread nD τ).loc cc0_scratch1) ↦{fullShare} f : sProp 𝕄) ⊢ iprop(anySlot c a0 ∗ anySlot c a1 ∗ anySlot c a2) := by
  rw [Ring.pointsTo_blocks (fun k : Fin 3 => (rectG k).set) rectG_disjoint rectG_cover f]
  refine (bigSep_mono (Ψ := fun k => anySlot (F := F) c (aS k)) fun k _ => ?_).trans (Entails.of_eq (bigSep_fin3 _))
  rw [any_aS]
  show (((c : Thread nD τ).loc cc0_scratch1) ↦[(rectG k).set]{fullShare} f : sProp 𝕄) ⊢ iprop(∃ f, ((c : Thread nD τ).loc cc0_scratch1) ↦[(rectG k).set]{fullShare} f)
  iintro H; iexists f; iexact H
theorem join_a (c : Dev nD) (f₀ : Buf (Elt F) ((c : Thread nD τ).loc cc0_scratch1)) : iprop(anySlot (F := F) c a0 ∗ anySlot (F := F) c a1 ∗ anySlot (F := F) c a2)
    ⊢ (iprop(∃ f : Buf (Elt F) ((c : Thread nD τ).loc cc0_scratch1), ((c : Thread nD τ).loc cc0_scratch1) ↦{fullShare} f) : sProp 𝕄) := by
  refine (Entails.of_eq (bigSep_fin3 (fun k => anySlot (F := F) c (aS k))).symm).trans ?_
  rw [bigSep_congr fun k _ => any_aS (F := F) c k]
  exact Ring.pointsTo_blocks_join_exists (ℓ := (c : Thread nD τ).loc cc0_scratch1) (fun k : Fin 3 => (rectG k).set) rectG_disjoint rectG_cover f₀

/-! ## The result, chunk by chunk -/

/-- The chunk an element of the result lies in, -/
def chunkOf (i : S2048x1024.Idx) : Dev nD := ⟨(i (0 : Fin 2)).val / 512, by have h : (i (0 : Fin 2)).val < 2048 := (i (0 : Fin 2)).isLt; show _ < 4; omega⟩
/-- and its place there. -/
def placeOf (i : S2048x1024.Idx) : S512x1024.Idx := fun a => match a with
  | ⟨0, _⟩ => ⟨(i (0 : Fin 2)).val % 512, Nat.mod_lt _ (by decide)⟩
  | ⟨1, _⟩ => ⟨(i (1 : Fin 2)).val, (i (1 : Fin 2)).isLt⟩
  | ⟨_ + 2, h⟩ => absurd h (Nat.not_lt.2 (Nat.le_add_left _ _))
/-- What device `c` writes. -/
def outS (c : Dev nD) : (cc0_stg5_0 : Ref sig .tc).ty.Contents (Elt F) := fun i => fullAt m c (chunkOf i) (placeOf i)

theorem rowsO_val0 (a : Dev nD) (j : S512x1024.Idx) : ((rowsO a).emb j (0 : Fin 2)).val = 512 * a.val + (j (0 : Fin 2)).val := by
  rw [Rect.emb_apply]; show 512 * a.val + 1 * _ = _; rw [Nat.one_mul]
theorem rowsO_val1 (a : Dev nD) (j : S512x1024.Idx) : ((rowsO a).emb j (1 : Fin 2)).val = (j (1 : Fin 2)).val := by
  rw [Rect.emb_apply]; show 0 + 1 * _ = _; rw [Nat.one_mul, Nat.zero_add]
theorem chunkOf_emb (a : Dev nD) (j : S512x1024.Idx) : chunkOf ((rowsO a).emb j) = a := by
  have h : (j (0 : Fin 2)).val < 512 := (j (0 : Fin 2)).isLt
  refine Fin.ext ?_
  show ((rowsO a).emb j (0 : Fin 2)).val / 512 = a.val
  rw [rowsO_val0]; omega
theorem placeOf_emb (a : Dev nD) (j : S512x1024.Idx) : placeOf ((rowsO a).emb j) = j := by
  have h : (j (0 : Fin 2)).val < 512 := (j (0 : Fin 2)).isLt
  refine funext fun k => Fin.ext ?_
  fin_cases k
  · show ((rowsO a).emb j (0 : Fin 2)).val % 512 = _
    rw [rowsO_val0]; show _ = (j (0 : Fin 2)).val; omega
  · exact rowsO_val1 a j
theorem outS_rows (c a : Dev nD) : (fun j => outS m c ((rowsO a).emb j)) = fullAt m c a :=
  funext fun j => by unfold outS; rw [chunkOf_emb, placeOf_emb]

theorem rowsO_disjoint : ∀ a a' : Dev nD, a ≠ a' → Disjoint (rowsO a).set (rowsO a').set :=
  Ring.lead_disjoint (s := S2048x1024) (0 : Fin 2) 512 (fun a : Fin 4 => ![512 * a.val, 0]) S512x1024.size rowsO_inb (fun b => rfl) rfl
theorem rowsO_cover : Finset.univ.biUnion (fun a : Dev nD => (rowsO a).set) = Finset.univ :=
  Ring.lead_cover (s := S2048x1024) (0 : Fin 2) 512 (fun a : Fin 4 => ![512 * a.val, 0]) S512x1024.size rowsO_inb (fun b => rfl)
    (fun b a h => by fin_cases a <;> first | rfl | exact absurd rfl h) rfl (fun a h => by fin_cases a <;> first | rfl | exact absurd rfl h) rfl

/-- The four chunks, in the order device `c` writes them. -/
theorem four (c : Dev nD) (Φ : Dev nD → sProp 𝕄) : bigSep Finset.univ Φ = iprop(Φ (nxt c) ∗ Φ (back c 0) ∗ Φ (back c 1) ∗ Φ (back c 2)) :=
  bigSep_univ_eq_bigSepL [nxt c, back c 0, back c 1, back c 2] (by revert c; decide) (by revert c; decide) Φ

theorem split_o (c : Dev nD) (Y : (cc0_stg5_0 : Ref sig .tc).ty.Contents (Elt F)) :
    held c cc0_stg5_0 Y ⊢ iprop((∃ Z, outRows c (nxt c) Z) ∗ (∃ Z, outRows c (back c 0) Z) ∗ (∃ Z, outRows c (back c 1) Z) ∗ (∃ Z, outRows c (back c 2) Z)) := by
  rw [show (held c cc0_stg5_0 Y : sProp 𝕄) = owns (c : Thread nD τ) oM fullShare Y from (owns_whole (c : Thread nD τ) cc0_stg5_0 fullShare Y).symm]
  refine (owns_rects (c : Thread nD τ) oM fullShare rowsO (fun _ _ => rfl) rowsO_disjoint rowsO_cover Y).trans ?_
  rw [← four c (fun a => iprop(∃ Z, outRows c a Z))]
  refine bigSep_mono fun a _ => ?_
  show outRows c a (fun j => Y ((rowsO a).emb j)) ⊢ iprop(∃ Z, outRows c a Z)
  iintro H; iexists (fun j => Y ((rowsO a).emb j)); iexact H

theorem join_o (c : Dev nD) :
    iprop(outRows c (nxt c) (fullAt m c (nxt c)) ∗ outRows c (back c 0) (fullAt m c (back c 0)) ∗ outRows c (back c 1) (fullAt m c (back c 1)) ∗ outRows c (back c 2) (fullAt m c (back c 2)))
      ⊢ held c cc0_stg5_0 (outS m c) := by
  have : ∀ e, Nonempty (Elt F e) := fun e => by infer_instance
  rw [show (held c cc0_stg5_0 (outS m c) : sProp 𝕄) = owns (c : Thread nD τ) oM fullShare (outS m c) from (owns_whole (c : Thread nD τ) cc0_stg5_0 fullShare _).symm]
  rw [← four c (fun a => outRows c a (fullAt m c a))]
  refine BI.Entails.trans ?_ (owns_of_rects (c : Thread nD τ) oM fullShare rowsO (fun _ _ => rfl) rowsO_disjoint rowsO_cover (outS m c))
  refine bigSep_mono fun a _ => ?_
  rw [outS_rows]
  exact BI.Entails.refl _

/-! ## The body -/

variable (K : Dev nD × Role → ℕ)

/-- What the body starts from, -/
def bodyIn (c : Dev nD) : sProp 𝕄 :=
  iprop(inp m c ∗ records m K ∗ levAts L lv ∗ owe c (O₀ c) ∗ (∃ Y, held c cc0_stg5_0 Y)
    ∗ (∃ f, held c cc0_scratch0 f) ∗ (∃ f, held c cc0_scratch1 f) ∗ (∃ f, held c cc0_scratch2 f)
    ∗ cred (tallyAt (barCell c) () 2) ∗ (bigSep Finset.univ fun s : Fin 6 => cred (tallyAt (recvCell c s) () N))
    ∗ atPos ER (barCell c) 0 ∅ 0 ∗ (bigSep Finset.univ fun s : Fin 6 => atPos ER (sendCell c s) 0 ∅ 0) ∗ (bigSep Finset.univ fun s : Fin 6 => atPos ER (recvCell c s) 0 ∅ 0)
    ∗ dutyTok ER (barCell (prv c)) 0 true ∗ dutyTok ER (barCell (nxt c)) 0 false
    ∗ (bigSep Finset.univ fun s : Fin 6 => dutyTok ER (sendCell c s) 0 false) ∗ (bigSep Finset.univ fun s : Fin 6 => dutyTok ER (recvCell (nxt c) s) 0 false))
/-- and what it ends with. -/
def bodyOut (c : Dev nD) : sProp 𝕄 :=
  iprop(inp m c ∗ owe c 0 ∗ held c cc0_stg5_0 (outS m c)
    ∗ (∃ f, held c cc0_scratch0 f) ∗ (∃ f, held c cc0_scratch1 f) ∗ (∃ f, held c cc0_scratch2 f)
    ∗ semVal (barCell c) 0 ∗ (bigSep Finset.univ fun s : Fin 6 => semVal (sendCell c s) 0) ∗ (bigSep Finset.univ fun s : Fin 6 => semVal (recvCell c s) 0))

set_option maxHeartbeats 4000000 in
set_option maxRecDepth 4000 in
/-- The body. -/
theorem sound_body (c : Dev nD) (Kt : PUnit → sProp 𝕄) :
    bodyIn m K c ⊢ iprop((bodyOut m c -∗ Kt ⟨⟩) -∗ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt) := by
  rw [cc0_body_eq_skeleton]; unfold cc0_body_skel
  rw [k0_part18_eq_skeleton]; unfold k0_part18_skel
  unfold bodyIn
  simp only [bigSep_fin6]
  iintro ⟨Hin, #HR, #HL, HO, ⟨%Y, Hout⟩, ⟨%f0, Hs0⟩, ⟨%f1, Hs1⟩, ⟨%f2, HA⟩, HcB, ⟨Hc0, Hc1, Hc2, Hc3, Hc4, Hc5⟩, HaB, ⟨Has0, Has1, Has2, Has3, Has4, Has5⟩, ⟨Har0, Har1, Har2, Har3, Har4, Har5⟩, HtP, HtN, ⟨Hts0, Hts1, Hts2, Hts3, Hts4, Hts5⟩, ⟨Htr0, Htr1, Htr2, Htr3, Htr4, Htr5⟩⟩ Hk
  icases (split_b c f0) $$ Hs0 with ⟨Hb0, Hb1, Hb2, Hb3⟩
  icases (split_a c f1) $$ Hs1 with ⟨Hg0, Hg1, Hg2⟩
  icases (split_o c Y) $$ Hout with ⟨⟨%Y0, Ho0⟩, ⟨%Y1, Ho1⟩, ⟨%Y2, Ho2⟩, ⟨%Y3, Ho3⟩⟩
  ihave Hsl := (Entails.of_eq (bigSep_fin6 fun s => anySlot (F := F) c (dstM s)).symm) $$ [Hb1 Hb2 Hb3 Hg0 Hg1 Hg2]
  · isplitl [Hb1]; · iexact Hb1
    isplitl [Hb2]; · iexact Hb2
    isplitl [Hb3]; · iexact Hb3
    isplitl [Hg0]; · iexact Hg0
    isplitl [Hg1]; · iexact Hg1
    iexact Hg2
  iapply (run_bind c _ _)
  iapply (run_bind c _ _)
  iapply (part1 m K c) $$ [Hin HcB HO HaB HtP HtN Hsl]
  · isplitl [Hin]; · iexact Hin
    isplitr; · iexact HR
    isplitr; · iexact HL
    isplitl [HcB]; · iexact HcB
    isplitl [HO]; · iexact HO
    isplitl [HaB]; · iexact HaB
    isplitl [HtP]; · iexact HtP
    isplitl [HtN]; · iexact HtN
    iexact Hsl
  iintro ⟨Hin, HO, HzB, Hsl⟩
  try dsimp only
  icases (Entails.of_eq (bigSep_fin6 fun s => anySlot (F := F) (nxt c) (dstM s))) $$ Hsl with ⟨Hd0, Hd1, Hd2, Hd3, Hd4, Hd5⟩
  iapply (run_bind c _ _)
  iapply (part2 m c _ _ _ _ _) $$ [Hin]
  · iexact Hin
  iintro Hin
  try dsimp only
  iapply (run_bind c _ _)
  iapply (part3 m K c _ _ _ _ _ _ _ (chain0 (wordOf c) (xr m c c) (rS m c) (ir m c c) (ew m c 0) (ew m c 1) (ew m c 2) (ew m c 3))) $$ [Hin Hb0 Hd0 HO Hts0 Htr0]
  · isplitl [Hin]; · iexact Hin
    isplitr; · iexact HR
    isplitl [Hb0]; · iexact Hb0
    isplitl [Hd0]; · iexact Hd0
    isplitl [HO]; · iexact HO
    isplitl [Hts0]; · iexact Hts0
    iexact Htr0
  iintro ⟨Hin, Hcs0, HO⟩
  try dsimp only
  iapply (run_bind c _ _)
  iapply (part4 m c _ _) $$ [Hin]
  · iexact Hin
  iintro Hin
  try dsimp only
  iapply (run_bind c _ _)
  iapply (part5 m c _ _ _ _ _ _ _) $$ [Hin]
  · iexact Hin
  iintro Hin
  try dsimp only
  iapply (run_bind c _ _)
  iapply (part6 m K c _ _ (chain1 (wordOf c) (xr m c (back c 1)) (rS m c) (ir m c (back c 1)) (ew m c 0) (ew m c 1) (ew m c 2) (ew m c 3)) _) $$ [HA Hc0 HO Har0]
  · isplitr; · iexact HR
    isplitr; · iexact HL
    isplitl [HA]; · iexact HA
    isplitl [Hc0]; · iexact Hc0
    isplitl [HO]; · iexact HO
    iexact Har0
  iintro ⟨HA, HO, Hb1, Hzr0⟩
  try dsimp only
  iapply (run_bind c _ _)
  iapply (part7 m K c _) $$ [Hin Hb1 Hd1 HO Hts1 Htr1]
  · isplitl [Hin]; · iexact Hin
    isplitr; · iexact HR
    isplitl [Hb1]; · iexact Hb1
    isplitl [Hd1]; · iexact Hd1
    isplitl [HO]; · iexact HO
    isplitl [Hts1]; · iexact Hts1
    iexact Htr1
  iintro ⟨Hin, Hcs1, HO⟩
  try dsimp only
  iapply (run_bind c _ _)
  iapply (part8 m c _ _ _ _ _ _) $$ [Hin]
  · iexact Hin
  iintro Hin
  try dsimp only
  iapply (run_bind c _ _)
  iapply (part9 m K c _ _ _ _ (chain2 (wordOf c) (xr m c (back c 2)) (rS m c) (ir m c (back c 2)) (ew m c 0) (ew m c 1) (ew m c 2) (ew m c 3)) _) $$ [HA Hc1 HO Har1]
  · isplitr; · iexact HR
    isplitr; · iexact HL
    isplitl [HA]; · iexact HA
    isplitl [Hc1]; · iexact Hc1
    isplitl [HO]; · iexact HO
    iexact Har1
  iintro ⟨HA, HO, Hb2, Hzr1⟩
  try dsimp only
  iapply (run_bind c _ _)
  iapply (part10 m K c _) $$ [Hin Hb2 Hd2 HO Hts2 Htr2]
  · isplitl [Hin]; · iexact Hin
    isplitr; · iexact HR
    isplitl [Hb2]; · iexact Hb2
    isplitl [Hd2]; · iexact Hd2
    isplitl [HO]; · iexact HO
    isplitl [Hts2]; · iexact Hts2
    iexact Htr2
  iintro ⟨Hin, Hcs2, HO⟩
  try dsimp only
  iapply (run_bind c _ _)
  iapply (part11 m c _ _ _ _ _ _) $$ [Hin]
  · iexact Hin
  iintro Hin
  try dsimp only
  iapply (run_bind c _ _)
  iapply (part12 m K c _ _ _ _ (chain3 (wordOf c) (xr m c (back c 3)) (rS m c) (ir m c (back c 3)) (ew m c 0) (ew m c 1) (ew m c 2) (ew m c 3)) _) $$ [Hin HA Hc2 HO Har2]
  · isplitl [Hin]; · iexact Hin
    isplitr; · iexact HR
    isplitr; · iexact HL
    isplitl [HA]; · iexact HA
    isplitl [Hc2]; · iexact Hc2
    isplitl [HO]; · iexact HO
    iexact Har2
  iintro ⟨Hin, HA, HO, Hb3, Hzr2⟩
  try dsimp only
  iapply (run_bind c _ _)
  iapply (part13 m K c _ _ _ _ Y0) $$ [Hin Hb3 Hd3 HO Hts3 Htr3 Ho0]
  · isplitl [Hin]; · iexact Hin
    isplitr; · iexact HR
    isplitl [Hb3]; · iexact Hb3
    isplitl [Hd3]; · iexact Hd3
    isplitl [HO]; · iexact HO
    isplitl [Hts3]; · iexact Hts3
    isplitl [Htr3]; · iexact Htr3
    iexact Ho0
  iintro ⟨Hin, Hcs3, HO, Hb3, Ho0⟩
  try dsimp only
  iapply (run_bind c _ _)
  iapply (part14 m K c _ _ Y1) $$ [Hc3 HO Har3 Hd4 Hts4 Htr4 Ho1]
  · isplitr; · iexact HR
    isplitr; · iexact HL
    isplitl [Hc3]; · iexact Hc3
    isplitl [HO]; · iexact HO
    isplitl [Har3]; · iexact Har3
    isplitl [Hd4]; · iexact Hd4
    isplitl [Hts4]; · iexact Hts4
    isplitl [Htr4]; · iexact Htr4
    iexact Ho1
  iintro ⟨Hcs4, HO, Hzr3, Ho1⟩
  try dsimp only
  iapply (run_bind c _ _)
  iapply (part15 m K c _ _ Y2) $$ [Hin Hc4 HO Har4 Ho2]
  · isplitl [Hin]; · iexact Hin
    isplitr; · iexact HR
    isplitr; · iexact HL
    isplitl [Hc4]; · iexact Hc4
    isplitl [HO]; · iexact HO
    isplitl [Har4]; · iexact Har4
    iexact Ho2
  iintro ⟨Hin, HO, Hg1, Hzr4, Ho2⟩
  try dsimp only
  iapply (run_bind c _ _)
  iapply (part16 m K c _ _ _ Y3) $$ [Hin Hg1 Hd5 HO Hts5 Htr5 Hc5 Har5 Ho3]
  · isplitl [Hin]; · iexact Hin
    isplitr; · iexact HR
    isplitr; · iexact HL
    isplitl [Hg1]; · iexact Hg1
    isplitl [Hd5]; · iexact Hd5
    isplitl [HO]; · iexact HO
    isplitl [Hts5]; · iexact Hts5
    isplitl [Htr5]; · iexact Htr5
    isplitl [Hc5]; · iexact Hc5
    isplitl [Har5]; · iexact Har5
    iexact Ho3
  iintro ⟨Hin, Hcs5, HO, Hg2, Hzr5, Ho3⟩
  try dsimp only
  iapply (run_bind c _ _)
  iapply (part17 m K c _) $$ [Hg2 HO Ho3 Hcs0 Has0 Hcs1 Has1 Hcs2 Has2]
  · isplitr; · iexact HR
    isplitl [Hg2]; · iexact Hg2
    isplitl [HO]; · iexact HO
    isplitl [Ho3]; · iexact Ho3
    isplitl [Hcs0]; · iexact Hcs0
    isplitl [Has0]; · iexact Has0
    isplitl [Hcs1]; · iexact Hcs1
    isplitl [Has1]; · iexact Has1
    isplitl [Hcs2]; · iexact Hcs2
    iexact Has2
  iintro ⟨Hg2, HO, Ho3, Hb0, Hzs0, Hb1, Hzs1, Hb2, Hzs2⟩
  try dsimp only
  simp only [Prog.lift, Prog.bind_op, Prog.bind_ret, Prog.pure_eq_ret]
  iapply (wait_send m K c 3) $$ [Hcs3 HO Has3]
  · isplitr; · iexact HR
    isplitl [Hcs3]; · iexact Hcs3
    isplitl [HO]; · iexact HO
    iexact Has3
  iintro ⟨HO, Hl3, Hzs3⟩
  iapply (wait_send m K c 4) $$ [Hcs4 HO Has4]
  · isplitr; · iexact HR
    isplitl [Hcs4]; · iexact Hcs4
    isplitl [HO]; · iexact HO
    iexact Has4
  iintro ⟨HO, Hg0, Hzs4⟩
  iapply (run_ret c _)
  try dsimp only
  iapply (wait_send m K c 5) $$ [Hcs5 HO Has5]
  · isplitr; · iexact HR
    isplitl [Hcs5]; · iexact Hcs5
    isplitl [HO]; · iexact HO
    iexact Has5
  iintro ⟨HO, Hg1, Hzs5⟩
  iapply (run_ret c _)
  iapply Hk
  unfold bodyOut
  simp only [bigSep_fin6]
  isplitl [Hin]; · iexact Hin
  isplitl [HO]; · iexact HO
  isplitl [Ho0 Ho1 Ho2 Ho3]
  · iapply (join_o m c)
    isplitl [Ho0]; · iexact Ho0
    isplitl [Ho1]; · iexact Ho1
    isplitl [Ho2]; · iexact Ho2
    iexact Ho3
  isplitl [Hb0 Hb1 Hb2 Hb3 Hl3]
  · iapply (join_b c f0)
    isplitl [Hb0]; · iapply (slot_any c b0 (val m c 0)); iexact Hb0
    isplitl [Hb1]; · iapply (slot_any c b1 (val m c 1)); iexact Hb1
    isplitl [Hb2]; · iapply (slot_any c b2 (val m c 2)); iexact Hb2
    iapply (slot_any c b3 (val m c 3))
    iapply (owns_halves (c : Thread nD τ) b3 fullShare (val m c 3)).2
    isplitl [Hl3]; · iexact Hl3
    iexact Hb3
  isplitl [Hg0 Hg1 Hg2]
  · iapply (join_a c f1)
    isplitl [Hg0]; · iapply (slot_any c a0 (val m c 4)); iexact Hg0
    isplitl [Hg1]; · iapply (slot_any c a1 (val m c 5)); iexact Hg1
    iapply (slot_any c a2 (val m (prv c) 5)); iexact Hg2
  isplitl [HA]; · iexists _; iexact HA
  isplitl [HzB]; · iexact HzB
  isplitl [Hzs0 Hzs1 Hzs2 Hzs3 Hzs4 Hzs5]
  · isplitl [Hzs0]; · iexact Hzs0
    isplitl [Hzs1]; · iexact Hzs1
    isplitl [Hzs2]; · iexact Hzs2
    isplitl [Hzs3]; · iexact Hzs3
    isplitl [Hzs4]; · iexact Hzs4
    iexact Hzs5
  · isplitl [Hzr0]; · iexact Hzr0
    isplitl [Hzr1]; · iexact Hzr1
    isplitl [Hzr2]; · iexact Hzr2
    isplitl [Hzr3]; · iexact Hzr3
    isplitl [Hzr4]; · iexact Hzr4
    iexact Hzr5

end Cert.MoeRing

end
-- ==== Proof.Launch.lean ====
/-
# The launch

The pipeline's proof data, its obligation for the one grid point, the ghost state dealt at launch, and the run of the
whole program: it ends, each device's result holds `outS`, the arguments hold what they held, every counter is zero.
-/
module

public import proofs.«01_k».proof.Proof.Body
public import Idealize.ShloMosaic.Lib.Pipeline.CollectiveSegs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The tokens device `c` pays with, and its positions. -/
def linear (c : Dev nD) : sProp 𝕄 :=
  iprop((atPos ER (barCell c) 0 ∅ 0 ∗ (bigSep Finset.univ fun s : Fin 6 => atPos ER (sendCell c s) 0 ∅ 0) ∗ (bigSep Finset.univ fun s : Fin 6 => atPos ER (recvCell c s) 0 ∅ 0))
    ∗ dutyTok ER (barCell (prv c)) 0 true ∗ dutyTok ER (barCell (nxt c)) 0 false
    ∗ (bigSep Finset.univ fun s : Fin 6 => dutyTok ER (sendCell c s) 0 false) ∗ (bigSep Finset.univ fun s : Fin 6 => dutyTok ER (recvCell (nxt c) s) 0 false))

/-- The ring's ghost state on device `c`. -/
def dealt (c : Dev nD) : sProp 𝕄 := iprop(∃ K, records m K ∗ linear c)

/-- With the credit of the waits on the neighbours' payments, and the levels. -/
def start (c : Dev nD) : sProp 𝕄 :=
  iprop(dealt m c ∗ cred (tallyAt (barCell c) () 2) ∗ (bigSep Finset.univ fun s : Fin 6 => cred (tallyAt (recvCell c s) () N)) ∗ levAts L lv)

/-- The three scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
def Φ₁ (c : Dev nD) : sProp 𝕄 :=
  iprop(scratch c ∗ semVal (barCell c) 0 ∗ (bigSep Finset.univ fun s : Fin 6 => semVal (sendCell c s) 0) ∗ (bigSep Finset.univ fun s : Fin 6 => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => rS m c
    | ⟨2, _⟩ => iS m c
    | ⟨3, _⟩ => eS m c
    | ⟨4, _⟩ => sS m c
    | ⟨5, _⟩ => outS m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-! ## The body's obligation -/

/-- A staging buffer, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_held (c : Dev nD) (b : Ref sig .tc) (X Y : b.ty.Contents (Elt F)) (h : X = Y) : stg c b X ⊢ held c b Y := by
  subst h
  unfold stg
  iintro ⟨%f, %hf, H⟩
  subst hf
  iexact H
theorem held_stg (c : Dev nD) (b : Ref sig .tc) (X : b.ty.Contents (Elt F)) : held c b X ⊢ stg c b X := by
  unfold stg
  iintro H
  iexists X; isplitr; · (ipureintro; rfl)
  iexact H

def pre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def post (c : Dev nD) : sProp 𝕄 :=
  iprop(Φ₁ c ∗ (dats m ρ 0 c).owesAt () t₀.succ ∗ stg c cc0_stg0_0 (xS m c) ∗ stg c cc0_stg1_0 (rS m c) ∗ stg c cc0_stg2_0 (iS m c)
    ∗ stg c cc0_stg3_0 (eS m c) ∗ stg c cc0_stg4_0 (sS m c) ∗ stg c cc0_stg5_0 (outS m c))

theorem before_0 (c : Dev nD) (d) : (dats m ρ 0 c).before (0 : Fin 6) t₀ d = xS m c := by unfold Dat.before; rw [if_pos (fetch0_0 t₀)]; rfl
theorem before_1 (c : Dev nD) (d) : (dats m ρ 0 c).before (1 : Fin 6) t₀ d = rS m c := by unfold Dat.before; rw [if_pos (fetch0_1 t₀)]; rfl
theorem before_2 (c : Dev nD) (d) : (dats m ρ 0 c).before (2 : Fin 6) t₀ d = iS m c := by unfold Dat.before; rw [if_pos (fetch0_2 t₀)]; rfl
theorem before_3 (c : Dev nD) (d) : (dats m ρ 0 c).before (3 : Fin 6) t₀ d = eS m c := by unfold Dat.before; rw [if_pos (fetch0_3 t₀)]; rfl
theorem before_4 (c : Dev nD) (d) : (dats m ρ 0 c).before (4 : Fin 6) t₀ d = sS m c := by unfold Dat.before; rw [if_pos (fetch0_4 t₀)]; rfl

set_option maxRecDepth 4000 in
theorem pre_body (c : Dev nD) : pre m ρ c ⊢ iprop(∃ K, bodyIn m K c) := by
  unfold pre Φ₀ start dealt linear scratch
  iintro ⟨⟨⟨⟨%K, HR, ⟨HaB, HaS, HaV⟩, HtP, HtN, HtS, HtV⟩, HcB, HcV, HL⟩, Hs0, Hs1, Hs2⟩, Ho, ⟨%d0, H0⟩, ⟨%d1, H1⟩, ⟨%d2, H2⟩, ⟨%d3, H3⟩, ⟨%d4, H4⟩, ⟨%d5, H5⟩⟩
  iexists K
  unfold bodyIn inp owe Dat.owesAt Pipeline.owesWithin
  icases Ho with ⟨%W, %hW, HO⟩
  isplitl [H0 H1 H2 H3 H4]
  · isplitl [H0]; · iapply (stg_held c cc0_stg0_0 _ _ (before_0 m ρ c d0)); iexact H0
    isplitl [H1]; · iapply (stg_held c cc0_stg1_0 _ _ (before_1 m ρ c d1)); iexact H1
    isplitl [H2]; · iapply (stg_held c cc0_stg2_0 _ _ (before_2 m ρ c d2)); iexact H2
    isplitl [H3]; · iapply (stg_held c cc0_stg3_0 _ _ (before_3 m ρ c d3)); iexact H3
    iapply (stg_held c cc0_stg4_0 _ _ (before_4 m ρ c d4)); iexact H4
  isplitl [HR]; · iexact HR
  isplitl [HL]; · iexact HL
  isplitl [HO]; · iexists W; iexact HO
  isplitl [H5]; · iexists _; iapply (stg_held c cc0_stg5_0 _ _ rfl); iexact H5
  isplitl [Hs0]; · iexact Hs0
  isplitl [Hs1]; · iexact Hs1
  isplitl [Hs2]; · iexact Hs2
  isplitl [HcB]; · iexact HcB
  isplitl [HcV]; · iexact HcV
  isplitl [HaB]; · iexact HaB
  isplitl [HaS]; · iexact HaS
  isplitl [HaV]; · iexact HaV
  isplitl [HtP]; · iexact HtP
  isplitl [HtN]; · iexact HtN
  isplitl [HtS] <;> iassumption

set_option maxRecDepth 4000 in
theorem body_post (c : Dev nD) : bodyOut m c ⊢ post m ρ c := by
  unfold post Φ₁ scratch bodyOut inp owe Dat.owesAt Pipeline.owesWithin
  rw [show (dats m ρ 0 c).owed t₀.succ = 0 from rfl]
  iintro ⟨⟨H0, H1, H2, H3, H4⟩, ⟨%W, HO⟩, H5, Hs0, Hs1, Hs2, HzB, HzS, HzV⟩
  isplitl [Hs0 Hs1 Hs2 HzB HzS HzV]
  · isplitl [Hs0 Hs1 Hs2]
    · isplitl [Hs0]; · iexact Hs0
      isplitl [Hs1]; · iexact Hs1
      iexact Hs2
    isplitl [HzB]; · iexact HzB
    isplitl [HzS] <;> iassumption
  isplitl [HO]
  · iexists W
    isplitr; · ipureintro; exact fun _ _ => Or.inl trivial
    iexact HO
  isplitl [H0]; · iapply (held_stg c cc0_stg0_0); iexact H0
  isplitl [H1]; · iapply (held_stg c cc0_stg1_0); iexact H1
  isplitl [H2]; · iapply (held_stg c cc0_stg2_0); iexact H2
  isplitl [H3]; · iapply (held_stg c cc0_stg3_0); iexact H3
  isplitl [H4]; · iapply (held_stg c cc0_stg4_0); iexact H4
  iapply (held_stg c cc0_stg5_0); iexact H5

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show pre m ρ c ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) (fun _ => post m ρ c)
  iintro H
  icases (pre_body m ρ c) $$ H with ⟨%K, H⟩
  iapply (sound_body m K c fun _ => post m ρ c) $$ H
  iintro H
  iapply (body_post m ρ c); iexact H

/-! ## The ghost state at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := fun k k' h =>
  Option.some.inj ((role_csem k).symm.trans ((congrArg role h).trans (role_csem k')))

theorem kcell_injective : Function.Injective (kcell : Dev nD × Role → GSem nD τ sig) := by
  rintro ⟨c, k⟩ ⟨c', k'⟩ h
  have h1 : c = c' := congrArg (fun g : GSem nD τ sig => g.1.1) h
  subst h1
  exact congrArg (Prod.mk c) (csem_injective (congrArg Prod.snd h))
def ringCells : Finset (GSem nD τ sig) := Finset.univ.map ⟨kcell, kcell_injective⟩

/-- The duties: two on a barrier cell, one on each other. -/
abbrev Duty : Type := Bool ⊕ (Fin 6 ⊕ Fin 6)
def dutyRole : Duty → Role | .inl _ => .inl () | .inr r => .inr r
def dutyName : Duty → Bool | .inl b => b | .inr _ => false
theorem duty_ext : ∀ j j' : Duty, dutyRole j = dutyRole j' → dutyName j = dutyName j' → j = j' := by decide
def tokOf (cj : Dev nD × Duty) : GSem nD τ sig × ℕ × Bool := (kcell (cj.1, dutyRole cj.2), 0, dutyName cj.2)
theorem tokOf_injective : Function.Injective tokOf := by
  rintro ⟨c, j⟩ ⟨c', j'⟩ h
  have h1 := kcell_injective (congrArg Prod.fst h)
  have h2 : dutyName j = dutyName j' := congrArg (fun x : GSem nD τ sig × ℕ × Bool => x.2.2) h
  have h3 : c = c' := congrArg Prod.fst h1
  subst h3
  exact congrArg (Prod.mk c) (duty_ext j j' (congrArg Prod.snd h1) h2)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- Over the roles: the barrier, the sends, the receives. -/
theorem bigSep_role (Φ : Role → sProp 𝕄) : bigSep Finset.univ Φ
    = iprop(Φ (.inl ()) ∗ (bigSep Finset.univ fun s : Fin 6 => Φ (.inr (.inl s))) ∗ (bigSep Finset.univ fun s : Fin 6 => Φ (.inr (.inr s)))) := by
  rw [BI.bigSep_univ_sum, BI.bigSep_univ_sum, Finset.univ_unique, bigSep_singleton]; rfl

/-- The tokens of device `c`'s own cells. -/
def toks (c : Dev nD) : sProp 𝕄 :=
  iprop(dutyTok ER (barCell c) 0 false ∗ dutyTok ER (barCell c) 0 true
    ∗ (bigSep Finset.univ fun s : Fin 6 => dutyTok ER (sendCell c s) 0 false) ∗ (bigSep Finset.univ fun s : Fin 6 => dutyTok ER (recvCell c s) 0 false))
theorem toks_eq (c : Dev nD) : (bigSep Finset.univ fun j : Duty => (dutyTok ER (tokOf (c, j)).1 (tokOf (c, j)).2.1 (tokOf (c, j)).2.2 : sProp 𝕄)) ⊢ toks c := by
  rw [BI.bigSep_univ_sum, BI.bigSep_univ_sum, bigSep_univ_eq_bigSepL [false, true] (by decide) (by decide), bigSepL_cons_cons, bigSepL_singleton]
  unfold toks
  show iprop((dutyTok ER (barCell c) 0 false ∗ dutyTok ER (barCell c) 0 true)
    ∗ (bigSep Finset.univ fun s : Fin 6 => dutyTok ER (sendCell c s) 0 false) ∗ (bigSep Finset.univ fun s : Fin 6 => dutyTok ER (recvCell c s) 0 false)) ⊢ _
  iintro ⟨⟨H1, H2⟩, H3, H4⟩
  isplitl [H1]; · iexact H1
  isplitl [H2]; · iexact H2
  isplitl [H3]; · iexact H3
  iexact H4

/-- What the launch deals device `c`. -/
def G (c : Dev nD) : sProp 𝕄 :=
  iprop((bigSep Finset.univ fun k : Role => roundState ER (ringRd m) (kcell (c, k)) 0)
    ∗ (bigSep Finset.univ fun k : Role => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Role => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun s : Fin 6 => semVal (sendCell c s) 0) ∗ (bigSep Finset.univ fun s : Fin 6 => semVal (recvCell c s) 0)) := by
  unfold Pipeline.ownSems0; rw [BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Role => semVal (kcell (c, k)) 0 : sProp 𝕄) := by
  rw [ownSems0_eq, unscopedSems0_eq, bigSep_role]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Role => semVal (kcell (c, k)) 0) ∗ bigSep Finset.univ fun k : Role => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks (c : Dev nD) : sProp 𝕄 :=
  iprop(dutyTok ER (barCell (prv c)) 0 true ∗ dutyTok ER (barCell (nxt c)) 0 false
    ∗ (bigSep Finset.univ fun s : Fin 6 => dutyTok ER (sendCell c s) 0 false) ∗ (bigSep Finset.univ fun s : Fin 6 => dutyTok ER (recvCell (nxt c) s) 0 false))

/-- The tokens dealt around the ring to the devices that pay with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv around (fun c : Dev nD => (dutyTok ER (barCell c) 0 false : sProp 𝕄)),
    bigSep_univ_equiv around.symm (fun c : Dev nD => (dutyTok ER (barCell c) 0 true : sProp 𝕄)),
    bigSep_univ_equiv around (fun c : Dev nD => (bigSep Finset.univ fun s : Fin 6 => dutyTok ER (recvCell c s) 0 false : sProp 𝕄))]
  iintro ⟨H1, H2, H3, H4⟩
  isplitl [H2]; · iexact H2
  isplitl [H1]; · iexact H1
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × Role → ℕ) (c : Dev nD) : iprop(records m K ∗ linear c) ⊢ dealt m c := by
  unfold dealt
  iintro H; iexists K; iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (dealt m) := by
  rw [bigSep_sep', bigSep_sep', ← bigSep_univ_prod (fun ck : Dev nD × Role => iprop(∃ κ : ℕ, cellInv ER (ringRd m) κ (kcell ck))),
    bigSep_congr (s := Finset.univ) (fun (c : Dev nD) _ => bigSep_sep' Finset.univ (fun k : Role => (atPos ER (kcell (c, k)) 0 ∅ 0 : sProp 𝕄)) (fun k => reached ER (kcell (c, k)) 0)),
    bigSep_sep', ← bigSep_univ_prod (fun ck : Dev nD × Role => (reached ER (kcell ck) 0 : sProp 𝕄))]
  iintro ⟨HI, ⟨Hat, #HR⟩, Htok⟩
  ihave HK := (BI.bigSep_exists_pi Finset.univ (fun (ck : Dev nD × Role) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => dealt_intro m K c)
  isplitr
  · unfold records; isplitl; · iexact HI
    iexact HR
  · iapply ((Entails.of_eq (bigSep_sep' Finset.univ (fun c : Dev nD => bigSep Finset.univ fun k : Role => (atPos ER (kcell (c, k)) 0 ∅ 0 : sProp 𝕄)) payToks).symm).trans
      (bigSep_mono fun c _ => show _ ⊢ linear c from Entails.of_eq (by unfold linear payToks; rw [bigSep_role])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The launch credit -/

theorem kcell_eq_iff {a b : Dev nD} {k k' : Role} : Iff (kcell (a, k) = kcell (b, k')) (a = b ∧ k = k') :=
  ⟨fun h => Prod.mk.inj (kcell_injective h), fun ⟨h, h'⟩ => by rw [h, h']⟩

theorem eq_nxt_iff {a d : Dev nD} : Iff (a = nxt d) (d = prv a) := ⟨fun h => by rw [h, prv_nxt], fun h => by rw [h, nxt_prv]⟩
theorem eq_prv_iff {a d : Dev nD} : Iff (a = prv d) (d = nxt a) := ⟨fun h => by rw [h, nxt_prv], fun h => by rw [h, prv_nxt]⟩

theorem tally_bar (a b : Dev nD) : (tallyAt (barCell b) () 1 : CellTallies nD τ sig Unit) (barCell a) () = if a = b then 1 else 0 := by
  rw [tallyAt_apply]
  by_cases h : a = b
  · subst h; rw [if_pos ⟨rfl, rfl⟩, if_pos rfl]
  · rw [if_neg (fun h' => h (kcell_eq_iff (k := .inl ()) (k' := .inl ()) |>.mp h'.1).1), if_neg h]
theorem tally_recv (a b : Dev nD) (s t : Fin 6) : (tallyAt (recvCell b t) () N : CellTallies nD τ sig Unit) (recvCell a s) () = if a = b ∧ s = t then N else 0 := by
  rw [tallyAt_apply]
  by_cases h : a = b ∧ s = t
  · obtain ⟨rfl, rfl⟩ := h; rw [if_pos ⟨rfl, rfl⟩, if_pos ⟨rfl, rfl⟩]
  · rw [if_neg (fun h' => h ?_), if_neg h]
    have h2 := kcell_eq_iff (k := .inr (.inr s)) (k' := .inr (.inr t)) |>.mp h'.1
    exact ⟨h2.1, Sum.inr.inj (Sum.inr.inj h2.2)⟩
theorem tally_bar_recv (a b : Dev nD) (s : Fin 6) : (tallyAt (barCell b) () 1 : CellTallies nD τ sig Unit) (recvCell a s) () = 0 := by
  rw [tallyAt_apply, if_neg]
  intro h'
  have h2 := kcell_eq_iff (k := .inr (.inr s)) (k' := .inl ()) |>.mp h'.1
  exact absurd h2.2 (by simp)
theorem orem_bar (d a : Dev nD) : ∀ k, orem d k (barCell a) () = 0
  | 0 => rfl
  | k + 1 => by
    unfold orem
    rw [Pi.add_apply, Finsupp.add_apply, orem_bar d a k, tallyAt_apply, if_neg]
    intro h'
    have h2 := kcell_eq_iff (k := .inl ()) (k' := .inr (.inr ⟨5 - k, Nat.lt_of_le_of_lt (Nat.sub_le 5 k) (by decide)⟩)) |>.mp h'.1
    exact absurd h2.2 (by simp)
theorem orem_recv (d a : Dev nD) (s : Fin 6) : ∀ k, k ≤ 6 → orem d k (recvCell a s) () = if a = nxt d ∧ 6 ≤ s.val + k then N else 0
  | 0, _ => by
    rw [if_neg (fun h => by have := h.2; omega)]; rfl
  | k + 1, hk => by
    unfold orem
    rw [Pi.add_apply, Finsupp.add_apply, orem_recv d a s k (by omega), tally_recv]
    by_cases ha : a = nxt d
    · by_cases h1 : 6 ≤ s.val + k
      · rw [if_pos ⟨ha, h1⟩, if_neg (fun h => by have := congrArg Fin.val h.2; simp only at this; omega), if_pos ⟨ha, by omega⟩, Nat.add_zero]
      · by_cases h2 : s.val = 5 - k
        · rw [if_neg (fun h => h1 h.2), if_pos ⟨ha, Fin.ext h2⟩, if_pos ⟨ha, by omega⟩, Nat.zero_add]
        · rw [if_neg (fun h => h1 h.2), if_neg (fun h => h2 (congrArg Fin.val h.2)), if_neg (fun h => by have := h.2; omega)]
    · rw [if_neg (fun h => ha h.1), if_neg (fun h => ha h.1), if_neg (fun h => ha h.1)]

/-- What device `d` owes device `c`'s barrier cell: a unit if it is the device after, a unit if it is the one before. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, orem_bar, tally_bar, tally_bar, Nat.zero_add]
  simp only [eq_nxt_iff (a := c) (d := d), eq_prv_iff (a := c) (d := d)]
/-- and its receive cells: the credit of the transfer, if it is the device before. -/
theorem owed_recv (d c : Dev nD) (s : Fin 6) : O₀ d (recvCell c s) () = if d = prv c then N else 0 := by
  unfold O₀ O₁
  rw [Pi.add_apply, Finsupp.add_apply, Pi.add_apply, Finsupp.add_apply, orem_recv d c s 6 (le_refl 6), tally_bar_recv, tally_bar_recv, Nat.add_zero, Nat.add_zero]
  by_cases h : d = prv c
  · rw [if_pos ⟨eq_nxt_iff.mpr h, Nat.le_add_left _ _⟩, if_pos h]
  · rw [if_neg (fun h' => h (eq_nxt_iff.mp h'.1)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (s : Fin 6) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (prv c) fun _ => N,
    if_pos (Finset.mem_univ _)]

/-- The semaphores a device waits on for its neighbours. -/
def paid : Unit ⊕ Fin 6 → SemLoc sig | .inl _ => .reg barS | .inr s => .dma (recvQ s)
theorem paid_injective : Function.Injective paid := by decide

theorem creds (c : Dev nD) :
    (Pipeline.launchCred O₀ c : sProp 𝕄) ⊢ iprop(cred (tallyAt (barCell c) () 2) ∗ (bigSep Finset.univ fun s : Fin 6 => cred (tallyAt (recvCell c s) () N))) := by
  unfold Pipeline.launchCred
  have h : (bigSep Finset.univ fun sm : SemLoc sig => (cred (tallyOn (c.tc, sm) (launchCredit (Pipeline.owing O₀) 0 (c.tc, sm))) : sProp 𝕄))
      ⊢ bigSep (Finset.univ.map ⟨paid, paid_injective⟩) fun sm : SemLoc sig => cred (tallyOn (c.tc, sm) (launchCredit (Pipeline.owing O₀) 0 (c.tc, sm))) :=
    bigSep_subset (Finset.subset_univ _)
  refine h.trans (Entails.of_eq ?_)
  rw [bigSep_map, BI.bigSep_univ_sum, Finset.univ_unique, bigSep_singleton, ← launch_bar, ← bigSep_congr fun s _ => congrArg cred (launch_recv c s)]
  rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program ends, each device's arrays hold what
the pipeline's data say, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run. -/
theorem finalA_0 (c : Dev nD) : finalA m ρ c (0 : Fin 6) = (s₀ m ρ).mem (win0_0.arr.view.loc (c : Thread nD τ)) := (dats (F := F) m ρ 0 c).arrAt_in (0 : Fin 6) rfl _
theorem finalA_1 (c : Dev nD) : finalA m ρ c (1 : Fin 6) = (s₀ m ρ).mem (win0_1.arr.view.loc (c : Thread nD τ)) := (dats (F := F) m ρ 0 c).arrAt_in (1 : Fin 6) rfl _
theorem finalA_2 (c : Dev nD) : finalA m ρ c (2 : Fin 6) = (s₀ m ρ).mem (win0_2.arr.view.loc (c : Thread nD τ)) := (dats (F := F) m ρ 0 c).arrAt_in (2 : Fin 6) rfl _
theorem finalA_3 (c : Dev nD) : finalA m ρ c (3 : Fin 6) = (s₀ m ρ).mem (win0_3.arr.view.loc (c : Thread nD τ)) := (dats (F := F) m ρ 0 c).arrAt_in (3 : Fin 6) rfl _
theorem finalA_4 (c : Dev nD) : finalA m ρ c (4 : Fin 6) = (s₀ m ρ).mem (win0_4.arr.view.loc (c : Thread nD τ)) := (dats (F := F) m ρ 0 c).arrAt_in (4 : Fin 6) rfl _

end Cert.MoeRing

end
-- ==== Proof.Frames.lean ====
/-
# The frames

The kernel and its idealization are the same text; one run, proved for any float values, gives both frames. The
reference is one device's straight line of host operations.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.MoeRing

open Idealize.ShloMosaic Idealize.ShloMosaic.TcCoe Idealize.SL.Sem

/-- The arguments after the kernel's run. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg)
    (r : PUnit × MemSt Cert.KernelIdeal.nD Cert.KernelIdeal.τ Cert.KernelIdeal.sig (Elt F)) (h : QC m ρ r) (c : Dev Cert.KernelIdeal.nD) :
    r.2.mem ((c.tc : Thread _ Cert.KernelIdeal.τ).loc Cert.KernelIdeal.main_arg0) = m ((c.tc : Thread _ Cert.KernelIdeal.τ).loc Cert.KernelIdeal.main_arg0)
    ∧ r.2.mem ((c.tc : Thread _ Cert.KernelIdeal.τ).loc Cert.KernelIdeal.main_arg1) = m ((c.tc : Thread _ Cert.KernelIdeal.τ).loc Cert.KernelIdeal.main_arg1)
    ∧ r.2.mem ((c.tc : Thread _ Cert.KernelIdeal.τ).loc Cert.KernelIdeal.main_arg2) = m ((c.tc : Thread _ Cert.KernelIdeal.τ).loc Cert.KernelIdeal.main_arg2)
    ∧ r.2.mem ((c.tc : Thread _ Cert.KernelIdeal.τ).loc Cert.KernelIdeal.main_arg3) = m ((c.tc : Thread _ Cert.KernelIdeal.τ).loc Cert.KernelIdeal.main_arg3)
    ∧ r.2.mem ((c.tc : Thread _ Cert.KernelIdeal.τ).loc Cert.KernelIdeal.main_arg4) = m ((c.tc : Thread _ Cert.KernelIdeal.τ).loc Cert.KernelIdeal.main_arg4) :=
  ⟨(h c (0 : Fin 6)).trans (finalA_0 m ρ c), (h c (1 : Fin 6)).trans (finalA_1 m ρ c), (h c (2 : Fin 6)).trans (finalA_2 m ρ c),
    (h c (3 : Fin 6)).trans (finalA_3 m ρ c), (h c (4 : Fin 6)).trans (finalA_4 m ρ c)⟩

/-- The two programs' body tables are one table: the kernel and its idealization are printed alike. -/
theorem bodies_eq : Cert.Kernel.defs₀ (F := Bits) = Cert.KernelIdeal.defs₀ (F := Bits) := by
  unfold Cert.Kernel.defs₀ Cert.KernelIdeal.defs₀
  refine congrArg Defs.onTc ?_
  funext l a
  rcases l with _ | _ <;> rfl
theorem defs_eq : Cert.Kernel.defs (F := Bits) = Cert.KernelIdeal.defs (F := Bits) := by
  unfold Cert.Kernel.defs Cert.KernelIdeal.defs
  exact congrArg (Pipeline.defs Cert.KernelIdeal.pcfgs) bodies_eq

/-- The kernel's frame, from the run. -/
theorem frame_kernel : Cert.quiescent_Kernel := by
  intro m ρ _
  have h := (θ_run Cert.KernelIdeal.defs _ _).mono (fun r h => And.intro (fun c => kept (F := Bits) m ρ r h.1 c) h.2) (run_main (F := Bits) m ρ)
  rw [← defs_eq] at h
  exact h

/-- Its idealization's. -/
theorem frame_kernelIdeal : Cert.quiescent_KernelIdeal := fun m ρ _ =>
  (θ_run Cert.KernelIdeal.defs _ _).mono (fun r h => ⟨fun c => kept m ρ r h.1 c, h.2⟩) (run_main (F := Ideal) m ρ)

/-- The reference's. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoeRing

end
-- ==== Proof.Spec.lean ====
/-
# One row's mathematics

What one token's row of the result is, over the extended reals: the scores of the sixteen experts, their softmax, and
the routed row. Both programs' arrays are read against these.
-/
module

public import Idealize.ShloMosaic.Lib.Pointwise

@[expose] public section

noncomputable section

namespace Cert.MoeRing

open Idealize.ShloMosaic

section Row
variable (x : Fin 512 → EReal) (W : Fin 512 → Fin 16 → EReal)

/-- The score of expert `e` for the token `x`: -/
def score (e : Fin 16) : EReal := ∑ k : Fin 512, x k * W k e
/-- the largest score; -/
def top : EReal := Finset.univ.fold max ⊥ (score x W)
/-- the exponential of a score, taken from the largest; -/
def weight (e : Fin 16) : EReal := Ideal.exp (score x W e - top x W)
/-- the softmax: the probability of expert `e`. -/
def prob (e : Fin 16) : EReal := Ideal.div (weight x W e) (∑ e' : Fin 16, weight x W e')

end Row

/-- One when two words are equal, zero when they are not: a comparison widened to a word and read as a number. -/
def ind (a b : BitVec 32) : EReal := FloatOps.sitofp (F := Ideal) .f32 ((IntOp.cmpi .eq a b).setWidth 32)

theorem ind_eq (a b : BitVec 32) : ind a b = if a = b then 1 else 0 := by
  show ((((IntOp.cmpi .eq a b).setWidth 32).toInt : ℝ) : EReal) = _
  by_cases h : a = b
  · simp [h, IntOp.cmpi]
  · rw [if_neg h, show IntOp.cmpi .eq a b = 0#1 from by simp [IntOp.cmpi, beq_eq_false_iff_ne.mpr h]]
    simp

/-- A choice by a comparison for equality. -/
theorem select_cmpi_eq {α : Type} (a b : BitVec 32) (p q : α) : Scalar.select (IntOp.cmpi .eq a b) p q = if a = b then p else q := by
  by_cases h : a = b
  · rw [if_pos h, show IntOp.cmpi .eq a b = 1#1 from by simp [IntOp.cmpi, h]]; rfl
  · rw [if_neg h, show IntOp.cmpi .eq a b = 0#1 from by simp [IntOp.cmpi, beq_eq_false_iff_ne.mpr h]]; rfl

/-- One token's row of the result: the shared expert's, and the expert's the index `i` names, by its probability; the
    sum over the sixteen has one term that is not zero, and none when `i` names no expert. -/
def rowOut (x : Fin 512 → EReal) (W : Fin 512 → Fin 16 → EReal) (i : BitVec 32) (E : Fin 16 → Fin 512 → EReal) (S : Fin 512 → EReal) : EReal :=
  (∑ k : Fin 512, x k * S k) + ∑ e : Fin 16, if i = BitVec.ofNat 32 e.val then prob x W e * ∑ k : Fin 512, x k * E e k else 0

/-- The smallest number's pattern. -/
theorem ofBits_negInf : Ideal.ofBits .f32 0xFF800000#32 = ⊥ := by simp [Ideal.ofBits, Ideal.ieee]

end Cert.MoeRing

end
-- ==== Proof.KernelValue.lean ====
/-
# The kernel's arrays, element by element
-/
module

public import proofs.«01_k».proof.Proof.Spec
public import proofs.«01_k».proof.Proof.Contents

@[expose] public section

noncomputable section

namespace Cert.MoeRing

open Cert.KernelIdeal Cert.KernelIdeal.Gen
open Idealize.ShloMosaic
open Idealize.ShloMosaic.TcCoe

theorem probsOf_apply (x : Vec Ideal S512x512 .f32) (rw : Vec Ideal S512x16 .f32) (r : Fin 512) (e : Fin 16) :
    probsOf (F := Ideal) x rw (ix2 r e) = prob (fun k => x (ix2 r k)) (fun k e => rw (ix2 k e)) e := by
  pointwise [probsOf, prob, weight, top, score, ofBits_negInf]

theorem pickOf_apply (p : FVec Ideal S512x16 .f32) (i : Vec Ideal S512x1 .i32) (r : Fin 512) :
    pickOf (F := Ideal) p i (ix2 r 0) = ∑ e : Fin 16, p (ix2 r e) * ind (BitVec.ofNat 32 e.val) (i (ix2 r 0)) := by
  pointwise [pickOf, ind]

theorem gateOf_apply (e : BitVec 32) (pk : FVec Ideal S512x1 .f32) (i : Vec Ideal S512x1 .i32) (r : Fin 512) :
    gateOf (F := Ideal) e pk i (ix2 r 0) = pk (ix2 r 0) * ind (i (ix2 r 0)) e := by
  pointwise [gateOf, ind]

theorem expertOf_apply (g : FVec Ideal S512x1 .f32) (x : Vec Ideal S512x512 .f32) (w : Vec Ideal S1x512x1024 .f32) (r : Fin 512) (j : Fin 1024) :
    expertOf (F := Ideal) g x w (ix2 r j) = ∑ k : Fin 512, (x (ix2 r k) * g (ix2 r 0)) * w (ix3 0 k j) := by
  pointwise [expertOf]

theorem sharedOf_apply (x : Vec Ideal S512x512 .f32) (w : Vec Ideal S512x1024 .f32) (r : Fin 512) (j : Fin 1024) :
    sharedOf (F := Ideal) x w (ix2 r j) = ∑ k : Fin 512, x (ix2 r k) * w (ix2 k j) := by
  pointwise [sharedOf]

end Cert.MoeRing

end
-- ==== Proof.Stage.lean ====
/-
# What the staged operands and the result buffer hold, in terms of the arguments
-/
module

public import proofs.«01_k».proof.Proof.KernelValue
public import proofs.«01_k».proof.Proof.Launch

@[expose] public section

noncomputable section

namespace Cert.MoeRing

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-! Every operand's window is its whole array. -/

theorem xS_eq (c : Dev nD) : xS m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem rS_eq (c : Dev nD) : rS m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
theorem iS_eq (c : Dev nD) : iS m c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
theorem eS_eq (c : Dev nD) : eS m c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _
theorem sS_eq (c : Dev nD) : sS m c = m ((c : Thread nD τ).loc main_arg4) :=
  Memref.read_access_unit_zero (Elt F) main_arg4 (off := fun a => win0_4.index (0 : Fin 1) a * main_arg4.ty.shape.size a)
    (funext fun a => by fin_cases a <;> decide) (fun a => by fin_cases a <;> decide) _

/-- Row `r` of chunk `a`, among the 2048 tokens. -/
def rowAt (a : Dev nD) (r : Fin 512) : Fin 2048 := ⟨512 * a.val + r.val, by have h : a.val < 4 := a.isLt; omega⟩
/-- Expert `k` of device `c`'s four, among the sixteen. -/
def expertAt (c : Dev nD) (k : Fin 4) : Fin 16 := ⟨4 * c.val + k.val, by have h : c.val < 4 := c.isLt; omega⟩

theorem xr_apply (c a : Dev nD) (r k : Fin 512) : xr m c a (ix2 r k) = m ((c : Thread nD τ).loc main_arg0) (ix2 (rowAt a r) k) := by
  unfold xr; rw [xS_eq, View.readAt_apply]
  refine congrArg _ (funext fun b => Fin.ext ?_)
  match b with
  | ⟨0, _⟩ => show 512 * a.val + 1 * r.val = 512 * a.val + r.val; omega
  | ⟨1, _⟩ => show 0 + 1 * k.val = k.val; omega
theorem ir_apply (c a : Dev nD) (r : Fin 512) : ir m c a (ix2 r 0) = m ((c : Thread nD τ).loc main_arg2) (ix2 (rowAt a r) 0) := by
  unfold ir; rw [iS_eq, View.readAt_apply]
  refine congrArg _ (funext fun b => Fin.ext ?_)
  match b with
  | ⟨0, _⟩ => show 512 * a.val + 1 * r.val = 512 * a.val + r.val; omega
  | ⟨1, _⟩ => rfl
theorem ew_apply (c : Dev nD) (k : Fin 4) (i : Fin 512) (j : Fin 1024) :
    ew m c k (ix3 0 i j) = m ((c : Thread nD τ).loc main_arg3) (ix3 k i j) := by
  unfold ew; rw [eS_eq, View.readAt_apply]
  refine congrArg _ (funext fun b => Fin.ext ?_)
  match b with
  | ⟨0, _⟩ => show k.val + 1 * 0 = k.val; omega
  | ⟨1, _⟩ => show 0 + 1 * i.val = i.val; omega
  | ⟨2, _⟩ => show 0 + 1 * j.val = j.val; omega

/-- The result buffer after the run: what the body left in its staging buffer, whole. -/
theorem finalA_5 (c : Dev nD) : finalA m ρ c (5 : Fin 6) = outS m c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  have hw := fun f (g : main_v1.ty.Contents (Elt F)) => Memref.write_access_unit_zero_univ (Elt F) main_v1 (off := fun a => win0_5.index (0 : Fin 1) a * main_v1.ty.shape.size a)
    (funext fun a => by fin_cases a <;> decide) (fun a => by fin_cases a <;> decide) f g
  exact hw _ _

/-- The word that names device `c` is its number, and expert `k`'s of its four the expert's number. -/
theorem expertWord_eq (c : Dev nD) :
    expertWord (wordOf c) 0#32 = BitVec.ofNat 32 (expertAt c 0).val ∧ expertWord (wordOf c) 1#32 = BitVec.ofNat 32 (expertAt c 1).val
    ∧ expertWord (wordOf c) 2#32 = BitVec.ofNat 32 (expertAt c 2).val ∧ expertWord (wordOf c) 3#32 = BitVec.ofNat 32 (expertAt c 3).val := by
  revert c; decide

end Cert.MoeRing

end
-- ==== Proof.RowAlgebra.lean ====
/-
# One expert's gated row is its probability times its row

With finite tokens and router weights every score is a real, so every probability is a real that is not negative; such
a factor moves out of a sum of extended reals, whatever the terms.
-/
module

public import proofs.«01_k».proof.Proof.Spec

@[expose] public section

noncomputable section

namespace Cert.MoeRing

open Idealize.ShloMosaic

theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of reals is a real; -/
theorem real_sum {ι : Type*} (s : Finset ι) (f : ι → EReal) (h : ∀ i, ∃ y : ℝ, f i = y) : ∃ y : ℝ, ∑ i ∈ s, f i = y := by
  choose g hg using h
  exact ⟨∑ i ∈ s, g i, by rw [coe_sum]; exact Finset.sum_congr rfl fun i _ => hg i⟩

/-- a sum of positive reals, over something, is a positive real; -/
theorem pos_sum {ι : Type*} (s : Finset ι) (hs : s.Nonempty) (f : ι → EReal) (h : ∀ i, ∃ y : ℝ, 0 < y ∧ f i = y) :
    ∃ y : ℝ, 0 < y ∧ ∑ i ∈ s, f i = y := by
  choose g hp hg using h
  exact ⟨∑ i ∈ s, g i, Finset.sum_pos (fun i _ => hp i) hs, by rw [coe_sum]; exact Finset.sum_congr rfl fun i _ => hg i⟩

/-- the largest of reals, over something, is a real. -/
theorem real_max {ι : Type*} [DecidableEq ι] (s : Finset ι) (hs : s.Nonempty) (f : ι → EReal) (h : ∀ i, ∃ y : ℝ, f i = y) :
    ∃ y : ℝ, s.fold max ⊥ f = y := by
  induction hs using Finset.Nonempty.cons_induction with
  | singleton a => obtain ⟨y, hy⟩ := h a; exact ⟨y, by rw [Finset.fold_singleton, hy]; exact max_eq_left bot_le⟩
  | cons a s ha hs ih =>
    obtain ⟨y, hy⟩ := h a; obtain ⟨z, hz⟩ := ih
    exact ⟨max y z, by rw [Finset.fold_cons, hy, hz]; exact (EReal.coe_strictMono.monotone.map_max).symm⟩

section Row
variable (x : Fin 512 → EReal) (W : Fin 512 → Fin 16 → EReal) (hx : ∀ k, ∃ y : ℝ, x k = y) (hW : ∀ k e, ∃ y : ℝ, W k e = y)
include hx hW

theorem real_score (e : Fin 16) : ∃ y : ℝ, score x W e = y :=
  real_sum _ _ fun k => by
    obtain ⟨y, hy⟩ := hx k; obtain ⟨z, hz⟩ := hW k e
    exact ⟨y * z, by rw [hy, hz, EReal.coe_mul]⟩

theorem pos_weight (e : Fin 16) : ∃ y : ℝ, 0 < y ∧ weight x W e = y := by
  obtain ⟨y, hy⟩ := real_score x W hx hW e
  obtain ⟨z, hz⟩ := real_max Finset.univ Finset.univ_nonempty (score x W) (real_score x W hx hW)
  refine ⟨Real.exp (y - z), Real.exp_pos _, ?_⟩
  unfold weight top
  rw [hy, hz, ← EReal.coe_sub]
  rfl

/-- Every probability is a real that is not negative. -/
theorem nonneg_prob (e : Fin 16) : ∃ y : ℝ, 0 ≤ y ∧ prob x W e = y := by
  obtain ⟨y, hp, hy⟩ := pos_weight x W hx hW e
  obtain ⟨z, hq, hz⟩ := pos_sum Finset.univ Finset.univ_nonempty (weight x W) (pos_weight x W hx hW)
  refine ⟨y * z⁻¹, mul_nonneg hp.le (inv_nonneg.mpr hq.le), ?_⟩
  unfold prob Ideal.div
  rw [hy, hz, if_neg (by exact_mod_cast hq.ne'), EReal.coe_mul, EReal.coe_inv]

end Row

/-- A real factor that is not negative moves out of a sum. -/
theorem mul_sum_of_nonneg {ι : Type*} (s : Finset ι) (f : ι → EReal) (y : ℝ) (hy : 0 ≤ y) :
    ∑ i ∈ s, (y : EReal) * f i = (y : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hy) (EReal.coe_ne_top y)]

theorem ofNat_inj (e e' : Fin 16) : BitVec.ofNat 32 e.val = BitVec.ofNat 32 e'.val ↔ e = e' := by revert e e'; decide

/-- The masked probabilities sum to the probability of the expert the index names. -/
theorem pick_eq (p : Fin 16 → EReal) (e : Fin 16) : ∑ e' : Fin 16, p e' * ind (BitVec.ofNat 32 e'.val) (BitVec.ofNat 32 e.val) = p e := by
  rw [Finset.sum_eq_single e]
  · rw [ind_eq, if_pos rfl, mul_one]
  · intro e' _ hne
    rw [ind_eq, if_neg (fun h => hne ((ofNat_inj e' e).mp h)), mul_zero]
  · intro h; exact absurd (Finset.mem_univ e) h

/-- What the kernel adds for one expert: the gated row through its matrix is nothing when the index names another, and
    else the row through its matrix, by the probability. -/
theorem gated_eq (x : Fin 512 → EReal) (p : Fin 16 → EReal) (hp : ∀ e, ∃ y : ℝ, 0 ≤ y ∧ p e = y) (i : BitVec 32) (e : Fin 16) (E : Fin 512 → EReal) :
    ∑ k : Fin 512, (x k * ((∑ e' : Fin 16, p e' * ind (BitVec.ofNat 32 e'.val) i) * ind i (BitVec.ofNat 32 e.val))) * E k
      = if i = BitVec.ofNat 32 e.val then p e * ∑ k : Fin 512, x k * E k else 0 := by
  by_cases h : i = BitVec.ofNat 32 e.val
  · subst h
    rw [if_pos rfl, pick_eq, ind_eq, if_pos rfl, mul_one]
    obtain ⟨y, hy, hpe⟩ := hp e
    rw [hpe, ← mul_sum_of_nonneg _ _ y hy]
    exact Finset.sum_congr rfl fun k _ => by rw [mul_comm (x k), mul_assoc]
  · rw [if_neg h, ind_eq, if_neg h]
    simp

end Cert.MoeRing

end
-- ==== Proof.RefValue.lean ====
/-
# The reference's result, element by element
-/
module

public import proofs.«01_k».proof.Proof.Spec
public import proofs.«01_k».proof.Proof.Gen.ReferenceIdeal
public import proofs.«01_k».proof.Proof.Gen.ReferenceIdeal.Run

@[expose] public section

noncomputable section

namespace Cert.MoeRing.Ref

open Cert.ReferenceIdeal Cert.ReferenceIdeal.Gen
open Idealize.ShloMosaic
open Idealize.ShloMosaic.TcCoe

variable (X : FVec Ideal S2048x512 .f32) (W : FVec Ideal S512x16 .f32) (I : IVec S2048x1 32)
  (E : FVec Ideal S16x512x1024 .f32) (Sh : FVec Ideal S512x1024 .f32)

/-- The reference's scores, -/
def scores : FVec Ideal S2048x16 .f32 := Host.dotGeneral dot_S2048x512_S512x16_S2048x16_1_0_0_1_n_n none X W
/-- their exponentials, each taken from its row's largest score, -/
def exps : FVec Ideal S2048x16 .f32 :=
  Host.exp (subf (scores X W) (broadcastInDim S2048x16 ![0, 1] bcast_S2048x1_S2048x16_0_1 (broadcastInDim S2048x1 ![0] bcast_S2048_S2048x1_0
    (Host.reduce FloatOps.maximumf (scores X W) (constant S_ .f32 0xFF800000#32) reducesTo_S2048x16_S2048_d1 h_S_))))
/-- the probabilities, -/
def probs : FVec Ideal S2048x16 .f32 :=
  Host.divf (exps X W) (broadcastInDim S2048x16 ![0, 1] bcast_S2048x1_S2048x16_0_1 (broadcastInDim S2048x1 ![0] bcast_S2048_S2048x1_0
    (Host.reduceAdd (exps X W) (constant S_ .f32 0x00000000#32) reducesTo_S2048x16_S2048_d1 h_S_)))
/-- every expert's rows by its probabilities, zero but in the rows routed to it, -/
def routed : FVec Ideal S2048x16x1024 .f32 :=
  select (broadcastInDim S2048x16x1024 ![0, 1, 2] bcast_S2048x16x1_S2048x16x1024_0_1_2
      (cmpi .eq (broadcastInDim S2048x16x1 ![0, 1, 2] bcast_S2048x1x1_S2048x16x1_0_1_2 (broadcastInDim S2048x1x1 ![0, 1] bcast_S2048x1_S2048x1x1_0_1 I))
        (broadcastInDim S2048x16x1 ![0, 1, 2] bcast_S1x16x1_S2048x16x1_0_1_2 (broadcastInDim S1x16x1 ![1] bcast_S16_S1x16x1_1 (iotaInDim S16 32 0)))))
    (mulf (broadcastInDim S2048x16x1024 ![0, 1, 2] bcast_S2048x16x1_S2048x16x1024_0_1_2 (broadcastInDim S2048x16x1 ![0, 1] bcast_S2048x16_S2048x16x1_0_1 (probs X W)))
      (Host.dotGeneral dot_S2048x512_S16x512x1024_S2048x16x1024_1_1_0_02_n_n none X E))
    (broadcastInDim S2048x16x1024 ![] bcast_S_S2048x16x1024 (id (constant S_ .f32 0x00000000#32)))
/-- and the result. -/
def result : FVec Ideal S2048x1024 .f32 :=
  addf (Host.dotGeneral dot_S2048x512_S512x1024_S2048x1024_1_0_0_1_n_n none X Sh)
    (Host.reduceAdd (routed X W I E) (constant S_ .f32 0x00000000#32) reducesTo_S2048x16x1024_S2048x1024_d1 h_S_)

theorem scores_apply (n : Fin 2048) (e : Fin 16) : scores X W (ix2 n e) = score (fun k => X (ix2 n k)) (fun k e => W (ix2 k e)) e := by
  pointwise [scores, score]

theorem exps_apply (n : Fin 2048) (e : Fin 16) : exps X W (ix2 n e) = weight (fun k => X (ix2 n k)) (fun k e => W (ix2 k e)) e := by
  pointwise [exps, weight, top, scores_apply, ofBits_negInf]

theorem probs_apply (n : Fin 2048) (e : Fin 16) : probs X W (ix2 n e) = prob (fun k => X (ix2 n k)) (fun k e => W (ix2 k e)) e := by
  pointwise [probs, prob, exps_apply]

theorem routed_apply (n : Fin 2048) (e : Fin 16) (j : Fin 1024) :
    routed X W I E (ix3 n e j) = if I (ix2 n 0) = BitVec.ofNat 32 e.val
      then prob (fun k => X (ix2 n k)) (fun k e => W (ix2 k e)) e * ∑ k : Fin 512, X (ix2 n k) * E (ix3 e k j) else 0 := by
  pointwise [routed, probs_apply]
  rw [select_cmpi_eq]
  refine if_congr Iff.rfl rfl ?_
  exact Ideal.ofBits_zero_f32

/-- A row of the reference's result. -/
theorem result_apply (n : Fin 2048) (j : Fin 1024) :
    result X W I E Sh (ix2 n j) = rowOut (fun k => X (ix2 n k)) (fun k e => W (ix2 k e)) (I (ix2 n 0)) (fun e k => E (ix3 e k j)) (fun k => Sh (ix2 k j)) := by
  pointwise [result, rowOut, routed_apply]

end Cert.MoeRing.Ref

end
-- ==== Proof.Equation.lean ====
/-
# The kernel's result is the reference's

A device's part of a chunk is four of the sixteen terms of each row's routed sum; the running sum carried round the
ring adds the four devices' parts, in an order that depends on the chunk, and so has all sixteen.
-/
module

public import proofs.«01_k».proof.Proof.Stage
public import proofs.«01_k».proof.Proof.RowAlgebra
public import proofs.«01_k».proof.Proof.RefValue

@[expose] public section

noncomputable section

namespace Cert.MoeRing

open Cert.KernelIdeal Cert.KernelIdeal.Gen
open Idealize.ShloMosaic
open Idealize.ShloMosaic.TcCoe

/-- A device's part at a place: its four experts' terms, in order. -/
theorem partOf_apply (v : BitVec 32) (x : Vec Ideal S512x512 .f32) (rw : Vec Ideal S512x16 .f32) (i : Vec Ideal S512x1 .i32)
    (w0 w1 w2 w3 : Vec Ideal S1x512x1024 .f32) (r : Fin 512) (j : Fin 1024) :
    partOf (F := Ideal) v x rw i w0 w1 w2 w3 (ix2 r j)
      = expertOf (F := Ideal) (gateOf (expertWord v 0#32) (pickOf (probsOf x rw) i) i) x w0 (ix2 r j)
        + expertOf (F := Ideal) (gateOf (expertWord v 1#32) (pickOf (probsOf x rw) i) i) x w1 (ix2 r j)
        + expertOf (F := Ideal) (gateOf (expertWord v 2#32) (pickOf (probsOf x rw) i) i) x w2 (ix2 r j)
        + expertOf (F := Ideal) (gateOf (expertWord v 3#32) (pickOf (probsOf x rw) i) i) x w3 (ix2 r j) := by
  unfold partOf
  rw [shapeCast_id]
  show Ideal.ofBits .f32 0x00000000#32 + expertOf (F := Ideal) _ x w0 (ix2 r j) + expertOf (F := Ideal) _ x w1 (ix2 r j)
    + expertOf (F := Ideal) _ x w2 (ix2 r j) + expertOf (F := Ideal) _ x w3 (ix2 r j) = _
  rw [Ideal.ofBits_zero_f32, zero_add]

/-- One expert's term of a row's routed sum. -/
def term (X : FVec Ideal S2048x512 .f32) (W : FVec Ideal S512x16 .f32) (I : IVec S2048x1 32)
    (E : FVec Ideal ⟨3, ![16, 512, 1024]⟩ .f32) (n : Fin 2048) (j : Fin 1024) (e : Fin 16) : EReal :=
  if I (ix2 n 0) = BitVec.ofNat 32 e.val
    then prob (fun k => X (ix2 n k)) (fun k e => W (ix2 k e)) e * ∑ k : Fin 512, X (ix2 n k) * E (ix3 e k j) else 0

section Agree
variable (m : (ℓ : Loc nD τ sig) → Buf (Elt Ideal) ℓ)
  (X : FVec Ideal S2048x512 .f32) (W : FVec Ideal S512x16 .f32) (I : IVec S2048x1 32)
  (E : FVec Ideal ⟨3, ![16, 512, 1024]⟩ .f32) (Sh : FVec Ideal S512x1024 .f32)
  (hX : ∀ c : Dev nD, m ((c : Thread nD τ).loc main_arg0) = X) (hW : ∀ c : Dev nD, m ((c : Thread nD τ).loc main_arg1) = W)
  (hI : ∀ c : Dev nD, m ((c : Thread nD τ).loc main_arg2) = I)
  (hE : ∀ (c : Dev nD) (k : Fin 4) (i : Fin 512) (j : Fin 1024), m ((c : Thread nD τ).loc main_arg3) (ix3 k i j) = E (ix3 (expertAt c k) i j))
  (hSh : ∀ c : Dev nD, m ((c : Thread nD τ).loc main_arg4) = Sh)
  (fX : ∀ n k, ∃ y : ℝ, X (ix2 n k) = y) (fW : ∀ k e, ∃ y : ℝ, W (ix2 k e) = y)
include hX hW hI hE fX fW

/-- One expert of device `d` on chunk `a`, at a place. -/
theorem expert_apply (d a : Dev nD) (k : Fin 4) (v : BitVec 32) (hv : v = BitVec.ofNat 32 (expertAt d k).val) (r : Fin 512) (j : Fin 1024) :
    expertOf (F := Ideal) (gateOf v (pickOf (probsOf (xr m d a) (rS m d)) (ir m d a)) (ir m d a)) (xr m d a) (ew m d k) (ix2 r j)
      = term X W I E (rowAt a r) j (expertAt d k) := by
  rw [expertOf_apply, gateOf_apply, pickOf_apply]
  simp only [probsOf_apply, xr_apply, ir_apply, ew_apply, rS_eq, hX, hW, hI, hE]
  subst hv
  exact gated_eq _ _ (nonneg_prob _ _ (fX _) fW) _ _ _

theorem partAt_apply (d a : Dev nD) (r : Fin 512) (j : Fin 1024) :
    partAt m d a (ix2 r j) = term X W I E (rowAt a r) j (expertAt d 0) + term X W I E (rowAt a r) j (expertAt d 1)
      + term X W I E (rowAt a r) j (expertAt d 2) + term X W I E (rowAt a r) j (expertAt d 3) := by
  obtain ⟨h0, h1, h2, h3⟩ := expertWord_eq d
  unfold partAt
  rw [partOf_apply, expert_apply m X W I E hX hW hI hE fX fW d a 0 _ h0, expert_apply m X W I E hX hW hI hE fX fW d a 1 _ h1,
    expert_apply m X W I E hX hW hI hE fX fW d a 2 _ h2, expert_apply m X W I E hX hW hI hE fX fW d a 3 _ h3]

omit hX hW hI hE fX fW in
/-- The finished sum of a chunk: the four devices' parts, from the chunk's own device on. -/
theorem acc_three (a : Dev nD) :
    acc m (prv a) 3 = addf (addf (addf (partAt m a a) (partAt m (nxt a) a)) (partAt m (nxt (nxt a)) a)) (partAt m (prv a) a) := by
  have h : prv (prv (prv (prv a))) = a ∧ prv (prv (prv a)) = nxt a ∧ prv (prv a) = nxt (nxt a)
      ∧ back (nxt a) 1 = a ∧ back (nxt (nxt a)) 2 = a ∧ back (prv a) 3 = a := by revert a; decide
  obtain ⟨h4, h3, h2, b1, b2, b3⟩ := h
  show addf (addf (addf (partAt m (prv (prv (prv (prv a)))) (prv (prv (prv (prv a))))) (partAt m (prv (prv (prv a))) (back (prv (prv (prv a))) 1)))
    (partAt m (prv (prv a)) (back (prv (prv a)) 2))) (partAt m (prv a) (back (prv a) 3)) = _
  rw [h4, h3, h2, b1, b2, b3]

omit hX hW hI hE fX fW in
/-- Sixteen terms, four by four from any device on. -/
theorem sum_round (f : Fin 16 → EReal) (a : Dev nD) :
    ((f (expertAt a 0) + f (expertAt a 1) + f (expertAt a 2) + f (expertAt a 3))
      + (f (expertAt (nxt a) 0) + f (expertAt (nxt a) 1) + f (expertAt (nxt a) 2) + f (expertAt (nxt a) 3))
      + (f (expertAt (nxt (nxt a)) 0) + f (expertAt (nxt (nxt a)) 1) + f (expertAt (nxt (nxt a)) 2) + f (expertAt (nxt (nxt a)) 3))
      + (f (expertAt (prv a) 0) + f (expertAt (prv a) 1) + f (expertAt (prv a) 2) + f (expertAt (prv a) 3)))
      = ∑ e : Fin 16, f e := by
  have hs : ∑ e : Fin 16, f e = (f 0 + f 1 + f 2 + f 3) + (f 4 + f 5 + f 6 + f 7) + (f 8 + f 9 + f 10 + f 11) + (f 12 + f 13 + f 14 + f 15) := by
    simp only [Fin.sum_univ_succ, Fin.sum_univ_zero]
    show f 0 + (f 1 + (f 2 + (f 3 + (f 4 + (f 5 + (f 6 + (f 7 + (f 8 + (f 9 + (f 10 + (f 11 + (f 12 + (f 13 + (f 14 + (f 15 + 0))))))))))))))) = _
    abel
  rw [hs]
  fin_cases a
  · rfl
  · show (f 4 + f 5 + f 6 + f 7) + (f 8 + f 9 + f 10 + f 11) + (f 12 + f 13 + f 14 + f 15) + (f 0 + f 1 + f 2 + f 3) = _
    abel
  · show (f 8 + f 9 + f 10 + f 11) + (f 12 + f 13 + f 14 + f 15) + (f 0 + f 1 + f 2 + f 3) + (f 4 + f 5 + f 6 + f 7) = _
    abel
  · show (f 12 + f 13 + f 14 + f 15) + (f 0 + f 1 + f 2 + f 3) + (f 4 + f 5 + f 6 + f 7) + (f 8 + f 9 + f 10 + f 11) = _
    abel

include hSh

/-- A row of a chunk, on every device. -/
theorem fullAt_apply (c a : Dev nD) (r : Fin 512) (j : Fin 1024) :
    fullAt m c a (ix2 r j) = rowOut (fun k => X (ix2 (rowAt a r) k)) (fun k e => W (ix2 k e)) (I (ix2 (rowAt a r) 0))
      (fun e k => E (ix3 e k j)) (fun k => Sh (ix2 k j)) := by
  unfold fullAt
  rw [acc_three]
  show sharedAt m c a (ix2 r j) + (partAt m a a (ix2 r j) + partAt m (nxt a) a (ix2 r j) + partAt m (nxt (nxt a)) a (ix2 r j) + partAt m (prv a) a (ix2 r j)) = _
  rw [partAt_apply m X W I E hX hW hI hE fX fW, partAt_apply m X W I E hX hW hI hE fX fW, partAt_apply m X W I E hX hW hI hE fX fW,
    partAt_apply m X W I E hX hW hI hE fX fW, sum_round]
  unfold sharedAt
  rw [sharedOf_apply]
  simp only [xr_apply, sS_eq, hX, hSh]
  rfl

/-- The whole result. -/
theorem outS_eq (c : Dev nD) : outS m c = Ref.result X W I E Sh := by
  funext i
  obtain ⟨n, j, rfl⟩ : ∃ (n : Fin 2048) (j : Fin 1024), i = ix2 n j := ⟨i 0, i 1, eq_ix2 i⟩
  rw [Ref.result_apply]
  have hp : placeOf (ix2 n j) = ix2 (⟨n.val % 512, Nat.mod_lt _ (by decide)⟩ : Fin 512) j := by
    funext b; match b with
    | ⟨0, _⟩ => rfl
    | ⟨1, _⟩ => rfl
  have hn : rowAt (chunkOf (ix2 n j)) ⟨n.val % 512, Nat.mod_lt _ (by decide)⟩ = n :=
    Fin.ext (show 512 * (n.val / 512) + n.val % 512 = n.val from Nat.div_add_mod _ _)
  unfold outS
  rw [hp, fullAt_apply m X W I E Sh hX hW hI hE hSh fX fW, hn]

end Agree

end Cert.MoeRing

end
-- ==== Proof.Algebraic.lean ====
/-
# Both runs end with one result

The precondition says every token and every router weight is finite; the kernel's run and the reference's then end with
the same array.
-/
module

public import proofs.«01_k».proof.Proof.Frames
public import proofs.«01_k».proof.Proof.Equation
public import proofs.«01_k».proof.Proof.Gen.Pre_finite_KernelIdeal

@[expose] public section

noncomputable section

namespace Cert.MoeRing

open Idealize.ShloMosaic Idealize.ShloMosaic.TcCoe Idealize.SL.Sem

theorem ofBits_posInf : Ideal.ofBits .f32 0x7F800000#32 = ⊤ := by simp [Ideal.ofBits, Ideal.ieee]

/-- A value whose magnitude compares below infinity is a real. -/
theorem real_of_lt (x : EReal) (h : FloatOps.cmpf (F := Ideal) (φ := .f32) .olt (FloatOps.hostAbsf (F := Ideal) (φ := .f32) x) (Ideal.ofBits .f32 0x7F800000#32) = 1#1) :
    ∃ y : ℝ, x = y := by
  rw [ofBits_posInf] at h
  have h' : BitVec.ofBool (decide (max x (-x) < ⊤)) = 1#1 := h
  have hlt : max x (-x) < ⊤ := by
    by_contra hn
    rw [decide_eq_false hn] at h'
    exact absurd h' (by decide)
  rw [max_lt_iff] at hlt
  refine ⟨x.toReal, (EReal.coe_toReal hlt.1.ne ?_).symm⟩
  rintro rfl
  exact absurd hlt.2 (by simp)

/-- What the precondition says of a token's element and a router weight. -/
theorem pre_apply (X : FVec Ideal ⟨2, ![2048, 512]⟩ .f32) (W : FVec Ideal ⟨2, ![512, 16]⟩ .f32) (I) (E) (S)
    (h : Cert.Pre_finite_KernelIdeal.fn (F := Ideal) X W I E S = fun _ => 1#1) (n : Fin 2048) (e : Fin 16) (k : Fin 512) :
    (∃ y : ℝ, X (ix2 n k) = y) ∧ ∃ y : ℝ, W (ix2 k e) = y := by
  have hk := congrFun h (ix3 n e k)
  have hk' : IntOp.andi (FloatOps.cmpf (F := Ideal) (φ := .f32) .olt (FloatOps.hostAbsf (F := Ideal) (φ := .f32) (X (ix2 n k))) (Ideal.ofBits .f32 0x7F800000#32))
      (FloatOps.cmpf (F := Ideal) (φ := .f32) .olt (FloatOps.hostAbsf (F := Ideal) (φ := .f32) (W (ix2 k e))) (Ideal.ofBits .f32 0x7F800000#32)) = 1#1 := by
    rw [← hk]
    pointwise [Cert.Pre_finite_KernelIdeal.fn]
  have hand : ∀ a b : BitVec 1, IntOp.andi a b = 1#1 → a = 1#1 ∧ b = 1#1 := by decide
  obtain ⟨h1, h2⟩ := hand _ _ hk'
  exact ⟨real_of_lt _ h1, real_of_lt _ h2⟩

theorem algebraic : Cert.algebraic_KernelIdeal_ReferenceIdeal_pre_finite_KernelIdeal := by
  intro m g m' g' hpre hag
  have hfin := pre_apply _ _ _ _ _ (hpre 0)
  rw [(hag 0).1, (hag 0).2.1] at hfin
  have hres := fun c => outS_eq m _ _ _ (m' (((0 : Dev Cert.ReferenceIdeal.nD).tc : Thread Cert.ReferenceIdeal.nD Cert.ReferenceIdeal.τ).loc Cert.ReferenceIdeal.main_arg3)) _
    (fun c => (hag c).1) (fun c => (hag c).2.1) (fun c => (hag c).2.2.1)
    (fun c k i j => by
      rw [(hag c).2.2.2.1, Layout.block_apply]
      refine congrArg _ (funext fun b => Fin.ext ?_)
      rw [Layout.Tiles.idx_val]
      match b with
      | ⟨0, _⟩ => show c.val * 4 + k.val = 4 * c.val + k.val; omega
      | ⟨1, _⟩ => rfl
      | ⟨2, _⟩ => rfl)
    (fun c => (hag c).2.2.2.2) (fun n k => (hfin n 0 k).1) (fun k e => (hfin 0 e k).2) c
  refine ⟨_, ?_, (θ_run Cert.ReferenceIdeal.defs _ _).mono (fun r h => h 0) (Cert.ReferenceIdeal.Value.run (F := Ideal) m' g')⟩
  exact (θ_run Cert.KernelIdeal.defs _ _).mono
    (fun r h c => ⟨((h.1 c (5 : Fin 6)).trans (finalA_5 m g c)).trans (hres c), kept m g r h.1 c⟩) (run_main (F := Ideal) m g)

end Cert.MoeRing

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    Cert.MoeRing.frame_kernel, Cert.MoeRing.frame_kernelIdeal, fun m ρ _ => Cert.MoeRing.frame_kernelIdeal m ρ trivial,
    Cert.MoeRing.frame_reference, fun m ρ _ => Cert.MoeRing.frame_reference m ρ trivial, trivial, Cert.MoeRing.algebraic⟩

end Cert.Proof

end
